-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_KernelIdeal_finite_in_range [hPre_finite_in_range : Cert.Pre_finite_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_in_range [hPre_finite_in_range : Cert.Pre_finite_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_in_range [hKernelIdeal : Cert.KernelIdeal.Facts] [hPre_finite_in_range : Cert.Pre_finite_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_in_range m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_in_range [hReferenceIdeal : Cert.ReferenceIdeal.Facts] [hPre_finite_in_range : Cert.Pre_finite_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_finite_in_range [hKernelIdeal : Cert.KernelIdeal.Facts] [hReferenceIdeal : Cert.ReferenceIdeal.Facts] [hPre_finite_in_range : Cert.Pre_finite_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_in_range : Cert.Pre_in_range.Facts) (hPre_finite_in_range : Cert.Pre_finite_in_range.Facts),
    quiescent_Kernel (hKernel := hKernel) (hPre_in_range := hPre_in_range)
    ∧ quiescent_KernelIdeal (hKernelIdeal := hKernelIdeal) (hPre_in_range := hPre_in_range)
    ∧ quiescent_KernelIdeal_pre_finite_in_range (hKernelIdeal := hKernelIdeal) (hPre_finite_in_range := hPre_finite_in_range)
    ∧ quiescent_ReferenceIdeal (hReferenceIdeal := hReferenceIdeal)
    ∧ quiescent_ReferenceIdeal_pre_finite_in_range (hReferenceIdeal := hReferenceIdeal) (hPre_finite_in_range := hPre_finite_in_range)
    ∧ preserves_Kernel_KernelIdeal
    ∧ algebraic_KernelIdeal_ReferenceIdeal_pre_finite_in_range (hKernelIdeal := hKernelIdeal) (hReferenceIdeal := hReferenceIdeal) (hPre_finite_in_range := hPre_finite_in_range)
-- ==== Pre_finite_in_range.lean ====
abbrev S16384x64 : Shape := ⟨2, ![16384, 64]⟩
abbrev S4096 : Shape := ⟨1, ![4096]⟩
abbrev S160 : Shape := ⟨1, ![160]⟩
abbrev S_ : Shape := ⟨0, ![]⟩

class Facts : Prop where
  bcast_S_S16384x64 : S_.BroadcastsInDim S16384x64 (![] : Fin 0 → Fin S16384x64.rank)
  reducesTo_S16384x64_S_d0_1 : S16384x64.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn_part1 {F : FTy → Type} [FloatOps F] (main_arg5 : IVec S4096 32) (main_v8 : IVec S_ 1) (main_v16 : IVec S4096 1) : IVec S_ 1 :=
  let main_c_5 : IVec S_ 32 := constantI S_ 32 160#32
  let main_v17 : IVec S4096 32 := broadcastInDim S4096 ![] bcast_S_S4096 main_c_5
  let main_v18 : IVec S4096 1 := cmpi .slt main_arg5 main_v17
  let main_v19 : IVec S4096 1 := andi main_v16 main_v18
  let main_c_6 : IVec S_ 1 := constantI S_ 1 1#1
  let main_v20 : IVec S_ 1 := (fun x v => Host.reduce IntOp.andi x v reducesTo_S4096_S_d0 h_S_) main_v19 main_c_6
  let main_v21 : IVec S_ 1 := andi main_v8 main_v20
  main_v21

def fn {F : FTy → Type} [FloatOps F] (main_arg0 : FVec F S16384x64 .f32) (main_arg1 : FVec F S4096 .f32) (main_arg2 : FVec F S160 .f32) (main_arg3 : FVec F S160 .f32) (main_arg4 : IVec S4096 32) (main_arg5 : IVec S4096 32) : IVec S_ 1 :=
  let main_v0 : FVec F S16384x64 .f32 := Host.absf main_arg0
  let main_cst : FVec F S_ .f32 := constant S_ .f32 0x7F800000#32
  let main_v1 : FVec F S16384x64 .f32 := broadcastInDim S16384x64 ![] bcast_S_S16384x64 main_cst
  let main_v2 : IVec S16384x64 1 := cmpf .olt main_v0 main_v1
  let main_c : IVec S_ 1 := constantI S_ 1 1#1
  let main_v3 : IVec S_ 1 := (fun x v => Host.reduce IntOp.andi x v reducesTo_S16384x64_S_d0_1 h_S_) main_v2 main_c
  let main_v4 : FVec F S4096 .f32 := Host.absf main_arg1
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  let main_c_2 : IVec S_ 32 := constantI S_ 32 0#32
  let main_v9 : IVec S4096 32 := broadcastInDim S4096 ![] bcast_S_S4096 main_c_2
  let main_v10 : IVec S4096 1 := cmpi .sge main_arg4 main_v9
  let main_c_3 : IVec S_ 32 := constantI S_ 32 224#32
  let main_v11 : IVec S4096 32 := broadcastInDim S4096 ![] bcast_S_S4096 main_c_3
  let main_v12 : IVec S4096 1 := cmpi .slt main_arg4 main_v11
  let main_v13 : IVec S4096 1 := andi main_v10 main_v12
  let main_c_4 : IVec S_ 32 := constantI S_ 32 0#32
  let main_v14 : IVec S4096 32 := broadcastInDim S4096 ![] bcast_S_S4096 main_c_4
  let main_v15 : IVec S4096 1 := cmpi .sge main_arg5 main_v14
  let main_v16 : IVec S4096 1 := andi main_v13 main_v15
  fn_part1 (F := F) main_arg5 main_v8 main_v16
-- ==== Pre_in_range.lean ====
abbrev S16384x64 : Shape := ⟨2, ![16384, 64]⟩
abbrev S4096 : Shape := ⟨1, ![4096]⟩
abbrev S160 : Shape := ⟨1, ![160]⟩
abbrev S_ : Shape := ⟨0, ![]⟩

class Facts : Prop where
  bcast_S_S4096 : S_.BroadcastsInDim S4096 (![] : Fin 0 → Fin S4096.rank)
  reducesTo_S4096_S_d0 : S4096.ReducesTo [0] S_
  h_S_ : 0 < S_.numel

variable [Facts]

def fn {F : FTy → Type} [FloatOps F] (main_arg0 : FVec F S16384x64 .f32) (main_arg1 : FVec F S4096 .f32) (main_arg2 : FVec F S160 .f32) (main_arg3 : FVec F S160 .f32) (main_arg4 : IVec S4096 32) (main_arg5 : IVec S4096 32) : IVec S_ 1 :=
  let main_c : IVec S_ 32 := constantI S_ 32 0#32
  let main_v0 : IVec S4096 32 := broadcastInDim S4096 ![] bcast_S_S4096 main_c
  let main_v1 : IVec S4096 1 := cmpi .sge main_arg4 main_v0
  let main_c_0 : IVec S_ 32 := constantI S_ 32 224#32
  let main_v2 : IVec S4096 32 := broadcastInDim S4096 ![] bcast_S_S4096 main_c_0
  let main_v3 : IVec S4096 1 := cmpi .slt main_arg4 main_v2
  let main_v4 : IVec S4096 1 := andi main_v1 main_v3
  let main_c_1 : IVec S_ 32 := constantI S_ 32 0#32
  let main_v5 : IVec S4096 32 := broadcastInDim S4096 ![] bcast_S_S4096 main_c_1
  let main_v6 : IVec S4096 1 := cmpi .sge main_arg5 main_v5
  let main_v7 : IVec S4096 1 := andi main_v4 main_v6
  let main_c_2 : IVec S_ 32 := constantI S_ 32 160#32
  let main_v8 : IVec S4096 32 := broadcastInDim S4096 ![] bcast_S_S4096 main_c_2
  let main_v9 : IVec S4096 1 := cmpi .slt main_arg5 main_v8
  let main_v10 : IVec S4096 1 := andi main_v7 main_v9
  let main_c_3 : IVec S_ 1 := constantI S_ 1 1#1
  let main_v11 : IVec S_ 1 := (fun x v => Host.reduce IntOp.andi x v reducesTo_S4096_S_d0 h_S_) main_v10 main_c_3
  main_v11
-- ==== Kernel.lean ====
abbrev S16384x64 : Shape := ⟨2, ![16384, 64]⟩
abbrev S4096 : Shape := ⟨1, ![4096]⟩
abbrev S160 : Shape := ⟨1, ![160]⟩
abbrev S2560 : Shape := ⟨1, ![2560]⟩
abbrev S2048 : Shape := ⟨1, ![2048]⟩
abbrev S_ : Shape := ⟨0, ![]⟩
abbrev S16 : Shape := ⟨1, ![16]⟩
abbrev S32x80 : Shape := ⟨2, ![32, 80]⟩
abbrev S32 : Shape := ⟨1, ![32]⟩
abbrev S1x32 : Shape := ⟨2, ![1, 32]⟩
abbrev S16384x32 : Shape := ⟨2, ![16384, 32]⟩
abbrev S8192x64 : Shape := ⟨2, ![8192, 64]⟩
abbrev S8192x32 : Shape := ⟨2, ![8192, 32]⟩
abbrev S32x64 : Shape := ⟨2, ![32, 64]⟩
abbrev S32x16 : Shape := ⟨2, ![32, 16]⟩
abbrev S64x32 : Shape := ⟨2, ![64, 32]⟩

abbrev nBuf : Table → Nat
  | .hbm => 13
  | .local .tc .vmem => 7
  | .local .scVector .vmem => 5
  | _ => 0

abbrev bufTy : (tb : Table) → Fin (nBuf tb) → BufTy
  | .hbm, ⟨0, _⟩ => ⟨S16384x64, .f32⟩
  | .hbm, ⟨1, _⟩ => ⟨S4096, .f32⟩
  | .hbm, ⟨2, _⟩ => ⟨S160, .f32⟩
  | .hbm, ⟨3, _⟩ => ⟨S160, .f32⟩
  | .hbm, ⟨4, _⟩ => ⟨S4096, .i32⟩
  | .hbm, ⟨5, _⟩ => ⟨S4096, .i32⟩
  | .hbm, ⟨6, _⟩ => ⟨S2560, .f32⟩
  | .hbm, ⟨7, _⟩ => ⟨S32x80, .f32⟩
  | .hbm, ⟨8, _⟩ => ⟨S32, .f32⟩
  | .hbm, ⟨9, _⟩ => ⟨S1x32, .f32⟩
  | .hbm, ⟨10, _⟩ => ⟨S32, .f32⟩
  | .hbm, ⟨11, _⟩ => ⟨S1x32, .f32⟩
  | .hbm, ⟨12, _⟩ => ⟨S16384x32, .f32⟩
  | .local .tc .vmem, ⟨0, _⟩ => ⟨S8192x64, .f32⟩
  | .local .tc .vmem, ⟨1, _⟩ => ⟨S8192x64, .f32⟩
  | .local .tc .vmem, ⟨2, _⟩ => ⟨S32x80, .f32⟩
  | .local .tc .vmem, ⟨3, _⟩ => ⟨S1x32, .f32⟩
  | .local .tc .vmem, ⟨4, _⟩ => ⟨S1x32, .f32⟩
  | .local .tc .vmem, ⟨5, _⟩ => ⟨S8192x32, .f32⟩
  | .local .tc .vmem, ⟨6, _⟩ => ⟨S8192x32, .f32⟩
  | .local .scVector .vmem, ⟨0, _⟩ => ⟨S4096, .i32⟩
  | .local .scVector .vmem, ⟨1, _⟩ => ⟨S4096, .i32⟩
  | .local .scVector .vmem, ⟨2, _⟩ => ⟨S4096, .f32⟩
  | .local .scVector .vmem, ⟨3, _⟩ => ⟨S2048, .f32⟩
  | .local .scVector .vmem, ⟨4, _⟩ => ⟨S160, .f32⟩
  | _, _ => ⟨S16384x64, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 11 → Bool
  | ⟨0, _⟩ => false
  | ⟨1, _⟩ => false
  | ⟨2, _⟩ => false
  | ⟨3, _⟩ => false
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTables nBuf rfl bufTy 4 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_arg4_scv : Ref sig .scVector := ⟨.hbm, 4, rfl⟩
abbrev main_arg5_scv : Ref sig .scVector := ⟨.hbm, 5, rfl⟩
abbrev main_arg1_scv : Ref sig .scVector := ⟨.hbm, 1, rfl⟩
abbrev main_v0_scv : Ref sig .scVector := ⟨.hbm, 6, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg3_0 : Ref sig .tc := ⟨.vmem, 4, rfl⟩
abbrev cc1_stg4_0 : Ref sig .tc := ⟨.vmem, 5, rfl⟩
abbrev cc1_stg4_1 : Ref sig .tc := ⟨.vmem, 6, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem4_1 : DmaSem sig := 10
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![1, 16], ![false, false]⟩

@[reducible] def k0_t1_loop : Scf.Loop 32 :=
  let c0_i32 : BitVec 32 := 0#32
  let c64_i32 : BitVec 32 := 64#32
  let v262 : BitVec 32 := Scalar.addi c0_i32 c64_i32
  let c1_i32_129 : BitVec 32 := 1#32
  ⟨c0_i32, v262, c1_i32_129⟩
def k0_off1 (k0_t1 : Fin k0_t1_loop.trips) : Fin 1 → Nat :=
  let c0_i32 : BitVec 32 := 0#32
  let c1_i32_129 : BitVec 32 := 1#32
  let arg14 : BitVec 32 := Scf.iv c0_i32 c1_i32_129 k0_t1
  let c4_i32 : BitVec 32 := 4#32
  let v523 : BitVec 32 := Scalar.muli arg14 c4_i32
  let c0_i32_269 : BitVec 32 := 0#32
  let v524 : BitVec 32 := Scalar.addi v523 c0_i32_269
  let c16_i32 : BitVec 32 := 16#32
  let v525 : BitVec 32 := Scalar.muli v524 c16_i32
  let v526 : Index := Scalar.indexCast v525
  ![v526.toNat]

def k0_chk1 (v565 : IVec S16 32) : Prop :=
  (∀ a x, ((![v565] : Fin 1 → IVec S16 32) a x).toNat < S2048.size a)
theorem k0_idx1_inb : ∀ (v565 : IVec S16 32) (k0_hw1 : k0_chk1 v565), ∀ a x, ((![v565] : Fin 1 → IVec S16 32) a x).toNat < S2048.size a := fun v565 k0_hw1 => k0_hw1
def k0_off2 (k0_t1 : Fin k0_t1_loop.trips) : Fin 1 → Nat :=
  let c0_i32 : BitVec 32 := 0#32
  let c1_i32_129 : BitVec 32 := 1#32
  let arg14 : BitVec 32 := Scf.iv c0_i32 c1_i32_129 k0_t1
  let c4_i32_283 : BitVec 32 := 4#32
  let v568 : BitVec 32 := Scalar.muli arg14 c4_i32_283
  let c1_i32_284 : BitVec 32 := 1#32
  let v569 : BitVec 32 := Scalar.addi v568 c1_i32_284
  let c16_i32_285 : BitVec 32 := 16#32
  let v570 : BitVec 32 := Scalar.muli v569 c16_i32_285
  let v571 : Index := Scalar.indexCast v570
  ![v571.toNat]

def k0_chk2 (v610 : IVec S16 32) : Prop :=
  (∀ a x, ((![v610] : Fin 1 → IVec S16 32) a x).toNat < S2048.size a)
theorem k0_idx2_inb : ∀ (v610 : IVec S16 32) (k0_hw2 : k0_chk2 v610), ∀ a x, ((![v610] : Fin 1 → IVec S16 32) a x).toNat < S2048.size a := fun v610 k0_hw2 => k0_hw2
def k0_off3 (k0_t1 : Fin k0_t1_loop.trips) : Fin 1 → Nat :=
  let c0_i32 : BitVec 32 := 0#32
  let c1_i32_129 : BitVec 32 := 1#32
  let arg14 : BitVec 32 := Scf.iv c0_i32 c1_i32_129 k0_t1
  let c4_i32_300 : BitVec 32 := 4#32
  let v613 : BitVec 32 := Scalar.muli arg14 c4_i32_300
  let c2_i32_301 : BitVec 32 := 2#32
  let v614 : BitVec 32 := Scalar.addi v613 c2_i32_301
  let c16_i32_302 : BitVec 32 := 16#32
  let v615 : BitVec 32 := Scalar.muli v614 c16_i32_302
  let v616 : Index := Scalar.indexCast v615
  ![v616.toNat]

def k0_chk3 (v655 : IVec S16 32) : Prop :=
  (∀ a x, ((![v655] : Fin 1 → IVec S16 32) a x).toNat < S2048.size a)
theorem k0_idx3_inb : ∀ (v655 : IVec S16 32) (k0_hw3 : k0_chk3 v655), ∀ a x, ((![v655] : Fin 1 → IVec S16 32) a x).toNat < S2048.size a := fun v655 k0_hw3 => k0_hw3
def k0_off4 (k0_t1 : Fin k0_t1_loop.trips) : Fin 1 → Nat :=
  let c0_i32 : BitVec 32 := 0#32
  let c1_i32_129 : BitVec 32 := 1#32
  let arg14 : BitVec 32 := Scf.iv c0_i32 c1_i32_129 k0_t1
  let c4_i32_317 : BitVec 32 := 4#32
  let v658 : BitVec 32 := Scalar.muli arg14 c4_i32_317
  let c3_i32 : BitVec 32 := 3#32
  let v659 : BitVec 32 := Scalar.addi v658 c3_i32
  let c16_i32_318 : BitVec 32 := 16#32
  let v660 : BitVec 32 := Scalar.muli v659 c16_i32_318
  let v661 : Index := Scalar.indexCast v660
  ![v661.toNat]

def k0_chk4 (v700 : IVec S16 32) : Prop :=
  (∀ a x, ((![v700] : Fin 1 → IVec S16 32) a x).toNat < S2048.size a)
theorem k0_idx4_inb : ∀ (v700 : IVec S16 32) (k0_hw4 : k0_chk4 v700), ∀ a x, ((![v700] : Fin 1 → IVec S16 32) a x).toNat < S2048.size a := fun v700 k0_hw4 => k0_hw4
def k0_off5 (i : grid0.Coords) : Fin 1 → Nat :=
  let arg1 : BitVec 32 := BitVec.ofNat 32 (i 1).val
  let c1_i32 : BitVec 32 := 1#32
  let v0 : BitVec 32 := Scalar.muli arg1 c1_i32
  let arg0 : BitVec 32 := BitVec.ofNat 32 (i 0).val
  let v1 : BitVec 32 := Scalar.addi v0 arg0
  let c160_i32 : BitVec 32 := 160#32
  let v522 : BitVec 32 := Scalar.muli v1 c160_i32
  ![v522.toNat]
abbrev grid1 : Pipeline.Grid := ⟨1, ![2], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x80 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S8192x32 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x64 : Shape := ⟨2, ![16384, 64]⟩
abbrev S4096 : Shape := ⟨1, ![4096]⟩
abbrev S160 : Shape := ⟨1, ![160]⟩
abbrev S_ : Shape := ⟨0, ![]⟩
abbrev S16384x160 : Shape := ⟨2, ![16384, 160]⟩
abbrev S16384x224 : Shape := ⟨2, ![16384, 224]⟩
abbrev S1x4096 : Shape := ⟨2, ![1, 4096]⟩
abbrev S4096x1 : Shape := ⟨2, ![4096, 1]⟩
abbrev S1 : Shape := ⟨1, ![1]⟩
abbrev S1x1 : Shape := ⟨2, ![1, 1]⟩
abbrev S16384x4096 : Shape := ⟨2, ![16384, 4096]⟩
abbrev S4096x16384 : Shape := ⟨2, ![4096, 16384]⟩
abbrev S160x16384 : Shape := ⟨2, ![160, 16384]⟩
abbrev S160x1 : Shape := ⟨2, ![160, 1]⟩
abbrev S16384x32 : Shape := ⟨2, ![16384, 32]⟩

abbrev nBuf : Space → Nat
  | .hbm => 71
  | .vmem => 0
  | .smem => 0
  | _ => 0

abbrev bufTy : (tb : Table) → Fin (tcTables nBuf tb) → BufTy
  | .hbm, ⟨0, _⟩ => ⟨S16384x64, .f32⟩
  | .hbm, ⟨1, _⟩ => ⟨S4096, .f32⟩
  | .hbm, ⟨2, _⟩ => ⟨S160, .f32⟩
  | .hbm, ⟨3, _⟩ => ⟨S160, .f32⟩
  | .hbm, ⟨4, _⟩ => ⟨S4096, .i32⟩
  | .hbm, ⟨5, _⟩ => ⟨S4096, .i32⟩
  | .hbm, ⟨6, _⟩ => ⟨S_, .f32⟩
  | .hbm, ⟨7, _⟩ => ⟨S16384x160, .f32⟩
  | .hbm, ⟨8, _⟩ => ⟨S16384x224, .f32⟩
  | .hbm, ⟨9, _⟩ => ⟨S1x4096, .f32⟩
  | .hbm, ⟨10, _⟩ => ⟨S_, .i32⟩
  | .hbm, ⟨11, _⟩ => ⟨S4096, .i32⟩
  | .hbm, ⟨12, _⟩ => ⟨S4096, .i1⟩
  | .hbm, ⟨13, _⟩ => ⟨S_, .i32⟩
  | .hbm, ⟨14, _⟩ => ⟨S4096, .i32⟩
  | .hbm, ⟨15, _⟩ => ⟨S4096, .i32⟩
  | .hbm, ⟨16, _⟩ => ⟨S4096, .i32⟩
  | .hbm, ⟨17, _⟩ => ⟨S4096x1, .i32⟩
  | .hbm, ⟨18, _⟩ => ⟨S1, .i32⟩
  | .hbm, ⟨19, _⟩ => ⟨S_, .i32⟩
  | .hbm, ⟨20, _⟩ => ⟨S4096x1, .i32⟩
  | .hbm, ⟨21, _⟩ => ⟨S4096x1, .i1⟩
  | .hbm, ⟨22, _⟩ => ⟨S1x1, .i32⟩
  | .hbm, ⟨23, _⟩ => ⟨S4096x1, .i32⟩
  | .hbm, ⟨24, _⟩ => ⟨S4096x1, .i1⟩
  | .hbm, ⟨25, _⟩ => ⟨S4096x1, .i1⟩
  | .hbm, ⟨26, _⟩ => ⟨S_, .i1⟩
  | .hbm, ⟨27, _⟩ => ⟨S4096, .i1⟩
  | .hbm, ⟨28, _⟩ => ⟨S16384x4096, .f32⟩
  | .hbm, ⟨29, _⟩ => ⟨S16384x4096, .i1⟩
  | .hbm, ⟨30, _⟩ => ⟨S_, .f32⟩
  | .hbm, ⟨31, _⟩ => ⟨S16384x4096, .f32⟩
  | .hbm, ⟨32, _⟩ => ⟨S16384x4096, .f32⟩
  | .hbm, ⟨33, _⟩ => ⟨S16384x4096, .f32⟩
  | .hbm, ⟨34, _⟩ => ⟨S16384x4096, .f32⟩
  | .hbm, ⟨35, _⟩ => ⟨S4096x16384, .f32⟩
  | .hbm, ⟨36, _⟩ => ⟨S_, .f32⟩
  | .hbm, ⟨37, _⟩ => ⟨S160x16384, .f32⟩
  | .hbm, ⟨38, _⟩ => ⟨S4096x1, .i32⟩
  | .hbm, ⟨39, _⟩ => ⟨S160x16384, .f32⟩
  | .hbm, ⟨40, _⟩ => ⟨S_, .f32⟩
  | .hbm, ⟨41, _⟩ => ⟨S4096, .f32⟩
  | .hbm, ⟨42, _⟩ => ⟨S_, .f32⟩
  | .hbm, ⟨43, _⟩ => ⟨S160, .f32⟩
  | .hbm, ⟨44, _⟩ => ⟨S4096x1, .i32⟩
  | .hbm, ⟨45, _⟩ => ⟨S160, .f32⟩
  | .hbm, ⟨46, _⟩ => ⟨S_, .f32⟩
  | .hbm, ⟨47, _⟩ => ⟨S160, .f32⟩
  | .hbm, ⟨48, _⟩ => ⟨S160, .i1⟩
  | .hbm, ⟨49, _⟩ => ⟨S160x1, .f32⟩
  | .hbm, ⟨50, _⟩ => ⟨S160x1, .f32⟩
  | .hbm, ⟨51, _⟩ => ⟨S160x16384, .f32⟩
  | .hbm, ⟨52, _⟩ => ⟨S160x16384, .f32⟩
  | .hbm, ⟨53, _⟩ => ⟨S160x16384, .f32⟩
  | .hbm, ⟨54, _⟩ => ⟨S160x16384, .f32⟩
  | .hbm, ⟨55, _⟩ => ⟨S160x16384, .f32⟩
  | .hbm, ⟨56, _⟩ => ⟨S160x16384, .f32⟩
  | .hbm, ⟨57, _⟩ => ⟨S_, .f32⟩
  | .hbm, ⟨58, _⟩ => ⟨S160x16384, .f32⟩
  | .hbm, ⟨59, _⟩ => ⟨S160x16384, .f32⟩
  | .hbm, ⟨60, _⟩ => ⟨S_, .f32⟩
  | .hbm, ⟨61, _⟩ => ⟨S160x16384, .f32⟩
  | .hbm, ⟨62, _⟩ => ⟨S160x16384, .f32⟩
  | .hbm, ⟨63, _⟩ => ⟨S160x1, .i1⟩
  | .hbm, ⟨64, _⟩ => ⟨S_, .f32⟩
  | .hbm, ⟨65, _⟩ => ⟨S_, .f32⟩
  | .hbm, ⟨66, _⟩ => ⟨S160x16384, .i1⟩
  | .hbm, ⟨67, _⟩ => ⟨S160x16384, .f32⟩
  | .hbm, ⟨68, _⟩ => ⟨S160x16384, .f32⟩
  | .hbm, ⟨69, _⟩ => ⟨S16384x160, .f32⟩
  | .hbm, ⟨70, _⟩ => ⟨S16384x32, .f32⟩
  | _, _ => ⟨S16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_cst : Ref sig .tc := ⟨.hbm, 30, rfl⟩
abbrev main_call0_v15 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_cst_0 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_cst_1 : Ref sig .tc := ⟨.hbm, 40, rfl⟩
abbrev main_v10 : Ref sig .tc := ⟨.hbm, 41, rfl⟩
abbrev main_cst_2 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_cst_3 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_cst_4 : Ref sig .tc := ⟨.hbm, 57, rfl⟩
abbrev main_v24 : Ref sig .tc := ⟨.hbm, 58, rfl⟩
abbrev main_v25 : Ref sig .tc := ⟨.hbm, 59, rfl⟩
abbrev main_cst_5 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_cst_6 : Ref sig .tc := ⟨.hbm, 64, rfl⟩
abbrev main_call1_v0 : Ref sig .tc := ⟨.hbm, 65, rfl⟩
abbrev main_call1_v1 : Ref sig .tc := ⟨.hbm, 66, rfl⟩
abbrev main_call1_v2 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩

abbrev nD : Nat := 1
abbrev τ : Topo := Topo.v7x

variable {F : FTy → Type} [FloatOps F]
-- ==== Proof.Values.lean ====
/-
  What the vector subcores compute, over any float values: the scatter-add of one chunk of sixteen edges into a
  2048-word accumulator (sixteen lanes' private 2 × 64 tables), the two per-lane in-degree counts, their states after any
  number of chunks, and the 160-word row the subcore writes out.
-/
module

public import proofs.«01_k».proof.Defs
public import proofs.«01_k».proof.Proof.Gen.KernelIdeal

@[expose] public section

noncomputable section

namespace Cert.Proof.Val

open Idealize.ShloMosaic
open Cert.KernelIdeal

variable {F : FTy → Type} [FloatOps F]

/-- Chunk `c` of a table of 4096 edges: its sixteen entries from `16 * c`. -/
def chunk {α : Type} (f : S4096.Idx → α) (c : ℕ) : S16.Idx → α :=
  fun x => f (Shape.ofLane (d := ![4096]) ⟨(16 * c + (x 0).val) % 4096, Nat.mod_lt _ (by decide)⟩)

/-- A chunk's destinations less the first node of the subcore. -/
def relV (b : BitVec 32) (d : IVec S16 32) : IVec S16 32 := subi d (broadcast S16 b)

/-- Which lanes hold an edge of the subcore's two nodes out of an input's node. -/
def maskV (b : BitVec 32) (s d : IVec S16 32) : IVec S16 1 :=
  andi (andi (cmpi .sge (relV b d) (broadcast S16 0#32)) (cmpi .slt (relV b d) (broadcast S16 2#32)))
    (cmpi .slt s (broadcast S16 64#32))

/-- The accumulator word each lane adds into. -/
def idxV (b : BitVec 32) (s d : IVec S16 32) : IVec S16 32 :=
  addi (addi (muli (iota .scVector S16 32 [0]) (broadcast S16 128#32))
      (muli (select (maskV b s d) (relV b d) (broadcast S16 0#32)) (broadcast S16 64#32)))
    (select (maskV b s d) s (broadcast S16 0#32))

/-- The value each lane adds: its edge's weight where it is one of the subcore's, zero elsewhere. -/
def valV (b : BitVec 32) (s d : IVec S16 32) (w : FVec F S16 .f32) : FVec F S16 .f32 :=
  select (maskV b s d) w (broadcast S16 (Scalar.ofBits .f32 0x00000000#32))

/-- One chunk's step of a per-lane count of the edges into node `n`. -/
def cntV (n : BitVec 32) (d : IVec S16 32) (c : FVec F S16 .f32) : FVec F S16 .f32 :=
  addf c (select (cmpi .eq d (broadcast S16 n)) (broadcast S16 (Scalar.ofBits .f32 0x3F800000#32))
    (broadcast S16 (Scalar.ofBits .f32 0x00000000#32)))

/-- The lane whose private table holds accumulator word `j`. -/
def laneOf (j : S2048.Idx) : S16.Idx :=
  Shape.ofLane (d := ![16]) ⟨(j 0).val / 128, Nat.div_lt_of_lt_mul (show (j 0).val < 128 * 16 from (j 0).isLt)⟩

/-- The accumulator after the scatter-add of one chunk: word `j` gains its lane's value where the lane names it. -/
def scat (b : BitVec 32) (s d : IVec S16 32) (w : FVec F S16 .f32) (A : FVec F S2048 .f32) : FVec F S2048 .f32 :=
  fun j => if maskV b s d (laneOf j) = 1 ∧ (idxV b s d (laneOf j)).toNat = (j 0).val then
    FloatOps.idxAddf (A j) (valV b s d w (laneOf j)) else A j

/-- The conjunction of two decided bits. -/
theorem ofBool_and (a b : Bool) : IntOp.andi (BitVec.ofBool a) (BitVec.ofBool b) = BitVec.ofBool (a && b) := by cases a <;> cases b <;> rfl
/-- A decided bit is one exactly when its proposition holds. -/
theorem ofBool_one (a : Bool) : BitVec.ofBool a = 1 ↔ a = true := by cases a <;> decide

/-- An edge is masked in exactly when its destination is one of the subcore's two nodes and its source an input. -/
theorem maskV_iff (b : BitVec 32) (s d : IVec S16 32) (x : S16.Idx) (hs : (s x).toNat < 2147483648) :
    maskV b s d x = 1 ↔ (d x - b).toNat < 2 ∧ (s x).toNat < 64 := by
  show IntOp.andi (IntOp.andi (IntOp.cmpi .sge (d x - b) 0#32) (IntOp.cmpi .slt (d x - b) 2#32)) (IntOp.cmpi .slt (s x) 64#32) = 1 ↔ _
  generalize d x - b = r
  simp only [IntOp.cmpi, ofBool_and, ofBool_one, Bool.and_eq_true, BitVec.sle_eq_decide, BitVec.slt_eq_decide, decide_eq_true_eq,
    BitVec.toInt_eq_toNat_cond, BitVec.toNat_ofNat, Nat.reducePow, Nat.reduceMod]
  have := r.isLt
  omega

/-- The accumulator word a lane names: in its own table, the edge's place where it is masked in, else the first. -/
theorem idxV_toNat (b : BitVec 32) (s d : IVec S16 32) (x : S16.Idx) (hs : (s x).toNat < 2147483648) :
    (idxV b s d x).toNat = 128 * (x 0).val + if maskV b s d x = 1 then 64 * (d x - b).toNat + (s x).toNat else 0 := by
  have hx : (x 0).val < 16 := (x 0).isLt
  have hm := maskV_iff b s d x hs
  have e : idxV b s d x = BitVec.ofNat 32 (0 * 16 + (x 0).val) * 128#32
      + (if maskV b s d x = 1 then d x - b else 0#32) * 64#32 + (if maskV b s d x = 1 then s x else 0#32) := rfl
  rw [e]
  by_cases h : maskV b s d x = 1
  · obtain ⟨h1, h2⟩ := hm.mp h
    simp only [h, if_true, BitVec.toNat_add, BitVec.toNat_mul, BitVec.toNat_ofNat, Nat.reducePow, Nat.reduceMod]
    omega
  · simp only [h, if_false, BitVec.toNat_add, BitVec.toNat_mul, BitVec.toNat_ofNat, Nat.reducePow, Nat.reduceMod]
    omega

/-- Every lane names a word of the accumulator. -/
theorem idxV_lt (b : BitVec 32) (s d : IVec S16 32) (hs : ∀ x, (s x).toNat < 2147483648) (x : S16.Idx) :
    (idxV b s d x).toNat < 2048 ∧ (idxV b s d x).toNat / 128 = (x 0).val := by
  have hx : (x 0).val < 16 := (x 0).isLt
  have hm := maskV_iff b s d x (hs x)
  rw [idxV_toNat b s d x (hs x)]
  split
  · rename_i h
    have := hm.mp h
    omega
  · omega

/-- Updating a table along a list of distinct keys, each adding its value at an entry of its own: an entry gains the value
of the one key that may name it, when that key is listed, set, and names it. -/
theorem foldl_upd {κ ι α : Type} [DecidableEq κ] (set : κ → Prop) [DecidablePred set] (at_ : κ → ι) (hit : κ → ι → Prop)
    [∀ k i, Decidable (hit k i)] (hhit : ∀ k i, hit k i ↔ i = at_ k) (add : κ → α → α)
    (own : ι → κ) (hown : ∀ k, own (at_ k) = k) (j : ι) :
    ∀ (L : List κ), L.Nodup → ∀ g : ι → α,
      (L.foldl (fun g k => if set k then fun i => if hit k i then add k (g (at_ k)) else g i else g) g) j
        = if own j ∈ L ∧ set (own j) ∧ hit (own j) j then add (own j) (g j) else g j
  | [], _, g => by simp
  | k :: L, hL, g => by
    rw [List.foldl_cons, foldl_upd set at_ hit hhit add own hown j L (List.nodup_cons.mp hL).2]
    have hk := (List.nodup_cons.mp hL).1
    by_cases hjk : own j = k
    · subst hjk
      rw [if_neg fun h => hk h.1]
      by_cases hs : set (own j)
      · rw [if_pos hs]
        by_cases ha : hit (own j) j
        · rw [if_pos ha, if_pos ⟨List.mem_cons_self, hs, ha⟩, ← (hhit _ _).mp ha]
        · rw [if_neg ha, if_neg fun h => ha h.2.2]
      · rw [if_neg hs, if_neg fun h => hs h.2.1]
    · have hne : ¬ hit k j := fun h => hjk ((hhit _ _).mp h ▸ hown k)
      have hg : (if set k then fun i => if hit k i then add k (g (at_ k)) else g i else g) j = g j := by
        split
        · exact if_neg hne
        · rfl
      rw [hg]
      simp only [List.mem_cons, hjk, false_or]

/-- The scatter-add the machine runs, lane by lane, is `scat`: no two lanes name one word. -/
theorem storeIdx_eq (b : BitVec 32) (s d : IVec S16 32) (w : FVec F S16 .f32) (hs : ∀ x, (s x).toNat < 2147483648) (A : FVec F S2048 .f32)
    (h : ∀ a x, ((![idxV b s d] : Fin 1 → IVec S16 32) a x).toNat < S2048.size a) :
    storeIdx (F := F) (s := S2048) (e := .f32) A ![idxV b s d] (valV b s d w) (maskV b s d) true h = scat b s d w A := by
  funext j
  have hown : ∀ k : Fin 16, laneOf (idxAt (s := S2048) ![idxV b s d] h (Shape.ofLane (d := ![16]) k)) 0 = k := fun k =>
    Fin.ext (idxV_lt b s d hs (Shape.ofLane (d := ![16]) k)).2
  unfold storeIdx
  simp only [if_true]
  refine (foldl_upd (fun k : Fin 16 => maskV b s d (Shape.ofLane (d := ![16]) k) = 1)
    (fun k => idxAt (s := S2048) ![idxV b s d] h (Shape.ofLane (d := ![16]) k))
    (fun k (i : S2048.Idx) => ∀ a, (i a).val = (idxAt (s := S2048) ![idxV b s d] h (Shape.ofLane (d := ![16]) k) a).val)
    (fun k i => ⟨fun h => funext fun a => Fin.ext (h a), fun h a => by rw [h]⟩)
    (fun k (g : F .f32) => Elt.idxAdd (F := F) .f32 g (valV b s d w (Shape.ofLane (d := ![16]) k))) (fun j => laneOf j 0) hown j
    (List.finRange 16) (List.nodup_finRange 16) A).trans ?_
  unfold scat
  by_cases hh : maskV b s d (laneOf j) = 1 ∧ (idxV b s d (laneOf j)).toNat = (j 0).val
  · rw [if_pos hh]
    exact if_pos ⟨List.mem_finRange _, hh.1, fun a => by match a with | 0 => exact hh.2.symm⟩
  · rw [if_neg hh]
    exact if_neg fun h => hh ⟨h.2.1, (h.2.2 0).symm⟩

/-- A subcore's state between chunks: its accumulator and its two nodes' per-lane counts. -/
structure St (F : FTy → Type) where
  /-- The sixteen lanes' tables. -/
  acc : FVec F S2048 .f32
  /-- The first node's counts. -/
  c0 : FVec F S16 .f32
  /-- The second node's counts. -/
  c1 : FVec F S16 .f32

/-- One chunk's step at the subcore whose first node is `b`. -/
def step (b : BitVec 32) (s d : IVec S4096 32) (w : FVec F S4096 .f32) (c : ℕ) (st : St F) : St F :=
  ⟨scat b (chunk s c) (chunk d c) (chunk w c) st.acc, cntV b (chunk d c) st.c0, cntV (b + 1#32) (chunk d c) st.c1⟩

/-- The zero word. -/
def z0 : F .f32 := Scalar.ofBits .f32 0x00000000#32

/-- The state after the first `n` chunks. -/
def stAt (b : BitVec 32) (s d : IVec S4096 32) (w : FVec F S4096 .f32) : ℕ → St F
  | 0 => ⟨broadcast S2048 z0, broadcast S16 z0, broadcast S16 z0⟩
  | n + 1 => step b s d w n (stAt b s d w n)

/-- Sixteen consecutive words of the accumulator from `o`. -/
def slab (A : FVec F S2048 .f32) (o : ℕ) : FVec F S16 .f32 :=
  fun x => A (Shape.ofLane (d := ![2048]) ⟨(o + (x 0).val) % 2048, Nat.mod_lt _ (by decide)⟩)

/-- The sum over the lanes of the sixteen words from `o` of each lane's table, in lane order. -/
def sumV (A : FVec F S2048 .f32) (o : ℕ) : ℕ → FVec F S16 .f32
  | 0 => slab A o
  | l + 1 => addf (sumV A o l) (slab A (128 * (l + 1) + o))

/-- Piece `k` of the row written out: for each of the two nodes four pieces of sums and one of counts. -/
def piece (st : St F) (k : ℕ) : FVec F S16 .f32 :=
  if k % 5 = 4 then (if k / 5 = 0 then st.c0 else st.c1) else sumV st.acc (64 * (k / 5) + 16 * (k % 5)) 15

/-- The row written out. -/
def rowOf (st : St F) : FVec F S160 .f32 :=
  fun j => piece st ((j 0).val / 16) (Shape.ofLane (d := ![16]) ⟨(j 0).val % 16, Nat.mod_lt _ (by decide)⟩)

/-- What the launch leaves in its result: block `t` of 160 words is the row of the subcore whose first node is `2 * t`. -/
def outV (s d : IVec S4096 32) (w : FVec F S4096 .f32) : FVec F S2560 .f32 :=
  fun j => rowOf (stAt (2#32 * BitVec.ofNat 32 ((j 0).val / 160)) s d w 256)
    (Shape.ofLane (d := ![160]) ⟨(j 0).val % 160, Nat.mod_lt _ (by decide)⟩)

end Cert.Proof.Val
-- ==== Proof.Setup.lean ====
/-
  The launch as the SparseCore's launch theorem sees it: the program's labels and body table, the resource algebra (the
  handshakes' rounds, the TensorCore pipeline's rounds, the transfers' counters), the buffers and their blocks, and what
  the handshakes carry: each of the sixteen subcores reads the three edge tables whole through a share of its own and
  writes its own 160 words of the result.
-/
module

public import proofs.«01_k».proof.Defs
public import proofs.«01_k».proof.Proof.Values
public import Idealize.ShloMosaic.Lib.SparseCore.Quiescent
public import Idealize.ShloMosaic.Lib.SparseCore.Ops
public import Idealize.ShloMosaic.Lib.ShareLeaves
public import Idealize.ShloMosaic.Lib.StableHlo.Run
public import Idealize.ShloMosaic.Lib.Pipeline.Regions
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program -/

abbrev ΛP : Labels := Pipeline.Sig Λ₀ (Fin 1) fun p => (pcfgs (F := F) p).Adm
abbrev K [FloatOps F] : SparseCore.Cfg τ sig (ΛP (F := F)) 1 := sc (F := F)
theorem nSub_zero [FloatOps F] : (K (F := F)).nSub 0 = 16 := rfl
theorem nCore_zero [FloatOps F] : (K (F := F)).nCore 0 = 1 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts [FloatOps F] : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
/-- The TensorCore pipeline's rounds inside the algebra. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EP_landsIn : (EP : Emb UP 𝕄).LandsIn (upEmb : UEmb _ 𝕄) := by unfold EP; infer_instance

/-! ## The launch memory and the buffers -/

variable (m : (ℓ : Loc nD τ sig) → Buf (Elt F) ℓ) (ρ : Dev nD → PrngReg)

/-- The edges' sources, destinations and weights, and the SparseCore's result, as locations of device `d`. -/
abbrev sLoc (d : Dev nD) : Loc nD τ sig := (SparseCore.T d).loc main_arg4
abbrev dLoc (d : Dev nD) : Loc nD τ sig := (SparseCore.T d).loc main_arg5
abbrev wLoc (d : Dev nD) : Loc nD τ sig := (SparseCore.T d).loc main_arg1
abbrev oLoc (d : Dev nD) : Loc nD τ sig := (SparseCore.T d).loc main_v0

-- the kernel's memrefs as the body table passes them
local notation "sV" => (Memref.whole Cert.KernelIdeal.main_arg4_scv : Memref Cert.KernelIdeal.sig Kind.scVector Space.hbm Cert.KernelIdeal.S4096 EltTy.i32)
local notation "dV" => (Memref.whole Cert.KernelIdeal.main_arg5_scv : Memref Cert.KernelIdeal.sig Kind.scVector Space.hbm Cert.KernelIdeal.S4096 EltTy.i32)
local notation "wV" => (Memref.whole Cert.KernelIdeal.main_arg1_scv : Memref Cert.KernelIdeal.sig Kind.scVector Space.hbm Cert.KernelIdeal.S4096 EltTy.f32)
local notation "oV" => (Memref.whole Cert.KernelIdeal.main_v0_scv : Memref Cert.KernelIdeal.sig Kind.scVector Space.hbm Cert.KernelIdeal.S2560 EltTy.f32)

theorem hdiv : 16 ∣ S2560.size 0 := ⟨160, rfl⟩
/-- Block `i` of the result: subcore `i`'s 160 words. -/
abbrev blk (i : Fin 16) : Rect S2560 := Rect.part (s := S2560) (a₀ := 0) hdiv i
abbrev blkSet (i : Fin 16) : Finset S2560.Idx := ((oV).view.slice (blk i)).set

/-- Subcore `i`'s share of a table all sixteen read. -/
abbrev tq (i : Fin 16) : PosShare TreeShare := ShareLeaves.leaf 4 fullShare i

variable [FloatOps F]

/-- What the launch leaves in the SparseCore's result. -/
def OUT (d : Dev nD) : Buf (Elt F) (oLoc d) := Val.outV (m (sLoc d)) (m (dLoc d)) (m (wLoc d))

/-! ## What the handshakes carry -/

abbrev sPts (d : Dev nD) (q : PosShare TreeShare) : sProp 𝕄 := sLoc d ↦{q} m (sLoc d)
abbrev dPts (d : Dev nD) (q : PosShare TreeShare) : sProp 𝕄 := dLoc d ↦{q} m (dLoc d)
abbrev wPts (d : Dev nD) (q : PosShare TreeShare) : sProp 𝕄 := wLoc d ↦{q} m (wLoc d)
abbrev oPts (d : Dev nD) (f : Buf (Elt F) (oLoc d)) : sProp 𝕄 := oLoc d ↦{fullShare} f
abbrev oBlk (d : Dev nD) (i : Fin 16) (f : Buf (Elt F) (oLoc d)) : sProp 𝕄 := oLoc d ↦[blkSet i]{fullShare} f

/-- The one call takes the three tables and the result whole; each subcore a share of each table and its own block of
    the result; each block comes back at the launch's value. -/
def P : (K (F := F)).Pay (nD := nD) (Val := Elt F) (Name := ℕ) (U := UU) where
  st := fun q d _ => match q with | 0 => iprop((sPts m d fullShare ∗ dPts m d fullShare ∗ wPts m d fullShare) ∗ oPts d (m (oLoc d)))
  dn := fun q d _ => match q with | 0 => iprop((sPts m d fullShare ∗ dPts m d fullShare ∗ wPts m d fullShare) ∗ oPts d (OUT m d))
  go := fun q d _ i => match q with
    | 0 => iprop((sPts m d (tq (Fin.cast nSub_zero i)) ∗ dPts m d (tq (Fin.cast nSub_zero i)) ∗ wPts m d (tq (Fin.cast nSub_zero i)))
        ∗ oBlk d (Fin.cast nSub_zero i) (m (oLoc d)))
  td := fun q d _ i => match q with
    | 0 => iprop((sPts m d (tq (Fin.cast nSub_zero i)) ∗ dPts m d (tq (Fin.cast nSub_zero i)) ∗ wPts m d (tq (Fin.cast nSub_zero i)))
        ∗ oBlk d (Fin.cast nSub_zero i) (OUT m d))
  x := fun _ _ => iprop(emp)

instance P_storable : (P (F := F) m).IsStorable where
  st q d _ := match q with
    | 0 => (inferInstance : BI.Storable (upEmb : UEmb _ 𝕄) iprop((sPts m d fullShare ∗ dPts m d fullShare ∗ wPts m d fullShare) ∗ oPts d (m (oLoc d))))
  dn q d _ := match q with
    | 0 => (inferInstance : BI.Storable (upEmb : UEmb _ 𝕄) iprop((sPts m d fullShare ∗ dPts m d fullShare ∗ wPts m d fullShare) ∗ oPts d (OUT m d)))
  go q d _ i := match q with
    | 0 => (inferInstance : BI.Storable (upEmb : UEmb _ 𝕄) iprop((sPts m d (tq (Fin.cast nSub_zero i)) ∗ dPts m d (tq (Fin.cast nSub_zero i)) ∗ wPts m d (tq (Fin.cast nSub_zero i)))
        ∗ oBlk d (Fin.cast nSub_zero i) (m (oLoc d))))
  td q d _ i := match q with
    | 0 => (inferInstance : BI.Storable (upEmb : UEmb _ 𝕄) iprop((sPts m d (tq (Fin.cast nSub_zero i)) ∗ dPts m d (tq (Fin.cast nSub_zero i)) ∗ wPts m d (tq (Fin.cast nSub_zero i)))
        ∗ oBlk d (Fin.cast nSub_zero i) (OUT m d)))

/-- What the proof asks of the launch memory: the sources and the destinations are words that read as naturals below `2 ^ 31`. -/
def PreOK : Prop := ∀ (d : Dev nD) (j : S4096.Idx), ((m (sLoc d)) j : BitVec 32).toNat < 2147483648

/-! ## The rows split and join -/

omit [FloatOps F] in
theorem blkSet_eq (i : Fin 16) : blkSet i = (blk i).set := by
  show ((View.whole (main_v0_scv : Ref sig .scVector)).slice (blk i)).set = _
  rw [View.set_slice]; exact Finset.map_refl
omit [FloatOps F] in
theorem blks_disjoint : ∀ i ∈ (Finset.univ : Finset (Fin 16)), ∀ j ∈ (Finset.univ : Finset (Fin 16)), i ≠ j → Disjoint (blkSet i) (blkSet j) :=
  fun i _ j _ h => by rw [blkSet_eq, blkSet_eq]; exact Rect.part_disjoint hdiv h
omit [FloatOps F] in
theorem blks_cover : (Finset.univ : Finset (Fin 16)).biUnion blkSet = Finset.univ :=
  (Finset.biUnion_congr rfl fun i _ => blkSet_eq i).trans (Rect.biUnion_part hdiv)
omit [FloatOps F] in
/-- The result whole is its sixteen blocks. -/
theorem oPts_blks (d : Dev nD) (f : Buf (Elt F) (oLoc d)) :
    (oLoc d ↦{fullShare} f : sProp 𝕄) = bigSep Finset.univ fun i : Fin 16 => oLoc d ↦[blkSet i]{fullShare} f := by
  rw [← pointsTo_biUnion Finset.univ (ℓ := oLoc d) blkSet blks_disjoint, blks_cover]; try rfl

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- The call's holdings are the sixteen subcores', and theirs at the launch's values are the call's. -/
theorem pay_eq (d : Dev nD) (f : Buf (Elt F) (oLoc d)) :
    iprop((sPts m d fullShare ∗ dPts m d fullShare ∗ wPts m d fullShare) ∗ oPts d f)
      = bigSep Finset.univ fun i : Fin ((K (F := F)).nSub 0) =>
        iprop((sPts m d (tq (Fin.cast nSub_zero i)) ∗ dPts m d (tq (Fin.cast nSub_zero i)) ∗ wPts m d (tq (Fin.cast nSub_zero i)))
          ∗ oBlk d (Fin.cast nSub_zero i) f) := by
  rw [bigSep_tasks (F := F) fun i => iprop((sPts m d (tq i) ∗ dPts m d (tq i) ∗ wPts m d (tq i)) ∗ oBlk d i f)]
  have es : (sPts m d fullShare : sProp 𝕄) = bigSep Finset.univ fun i : Fin 16 => sPts m d (tq i) :=
    ShareLeaves.pointsTo_leaves Finset.univ (m (sLoc d)) 4 fullShare
  have ed : (dPts m d fullShare : sProp 𝕄) = bigSep Finset.univ fun i : Fin 16 => dPts m d (tq i) :=
    ShareLeaves.pointsTo_leaves Finset.univ (m (dLoc d)) 4 fullShare
  have ew : (wPts m d fullShare : sProp 𝕄) = bigSep Finset.univ fun i : Fin 16 => wPts m d (tq i) :=
    ShareLeaves.pointsTo_leaves Finset.univ (m (wLoc d)) 4 fullShare
  rw [bigSep_sep', bigSep_sep', bigSep_sep', ← oPts_blks, es, ed, ew]

theorem vecSplit : (K (F := F)).VecSplit' (P m) 0 := by
  intro d c
  show iprop((sPts m d fullShare ∗ dPts m d fullShare ∗ wPts m d fullShare) ∗ oPts d (m (oLoc d))) ⊢ |={Set.univ}=> iprop(
      (bigSep Finset.univ fun i : Fin ((K (F := F)).nSub 0) => iprop((sPts m d (tq (Fin.cast nSub_zero i)) ∗ dPts m d (tq (Fin.cast nSub_zero i)) ∗ wPts m d (tq (Fin.cast nSub_zero i)))
          ∗ oBlk d (Fin.cast nSub_zero i) (m (oLoc d))))
      ∗ ((bigSep Finset.univ fun i : Fin ((K (F := F)).nSub 0) => iprop((sPts m d (tq (Fin.cast nSub_zero i)) ∗ dPts m d (tq (Fin.cast nSub_zero i)) ∗ wPts m d (tq (Fin.cast nSub_zero i)))
          ∗ oBlk d (Fin.cast nSub_zero i) (OUT m d)))
        -∗ iprop((sPts m d fullShare ∗ dPts m d fullShare ∗ wPts m d fullShare) ∗ oPts d (OUT m d))))
  rw [← pay_eq, ← pay_eq]
  iintro H
  imodintro
  isplitl [H]; · iexact H
  iintro H; iexact H

end Cert.Proof.Sc
-- ==== Proof.Tile.lean ====
/-
  One vector subcore's task, run once at a symbolic subcore, over any float values.
-/
module

public import proofs.«01_k».proof.Proof.Setup

@[expose] public section

noncomputable section

namespace Cert.Proof.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)
variable [FloatOps F]
variable (d : Dev nD) (L : grid0.Coords)

abbrev cV (L : grid0.Coords) : Fin τ.nSC := (L 0).castLE hcore0
abbrev jV (L : grid0.Coords) : Fin τ.nSub := (L 1).castLE hsub0
omit [FloatOps F] in
theorem bound_one : grid0.bound 1 = 16 := rfl
abbrev jL (L : grid0.Coords) : Fin 16 := Fin.cast bound_one (L 1)

local notation "sV" => (Memref.whole Cert.KernelIdeal.main_arg4_scv : Memref Cert.KernelIdeal.sig Kind.scVector Space.hbm Cert.KernelIdeal.S4096 EltTy.i32)
local notation "dV" => (Memref.whole Cert.KernelIdeal.main_arg5_scv : Memref Cert.KernelIdeal.sig Kind.scVector Space.hbm Cert.KernelIdeal.S4096 EltTy.i32)
local notation "wV" => (Memref.whole Cert.KernelIdeal.main_arg1_scv : Memref Cert.KernelIdeal.sig Kind.scVector Space.hbm Cert.KernelIdeal.S4096 EltTy.f32)
local notation "oV" => (Memref.whole Cert.KernelIdeal.main_v0_scv : Memref Cert.KernelIdeal.sig Kind.scVector Space.hbm Cert.KernelIdeal.S2560 EltTy.f32)
local notation "bS" => (Memref.whole Cert.KernelIdeal.cc0_scratch0 : Memref Cert.KernelIdeal.sig Kind.scVector Space.vmem Cert.KernelIdeal.S4096 EltTy.i32)
local notation "bD" => (Memref.whole Cert.KernelIdeal.cc0_scratch1 : Memref Cert.KernelIdeal.sig Kind.scVector Space.vmem Cert.KernelIdeal.S4096 EltTy.i32)
local notation "bW" => (Memref.whole Cert.KernelIdeal.cc0_scratch2 : Memref Cert.KernelIdeal.sig Kind.scVector Space.vmem Cert.KernelIdeal.S4096 EltTy.f32)
local notation "bA" => (Memref.whole Cert.KernelIdeal.cc0_scratch3 : Memref Cert.KernelIdeal.sig Kind.scVector Space.vmem Cert.KernelIdeal.S2048 EltTy.f32)
local notation "bR" => (Memref.whole Cert.KernelIdeal.cc0_scratch4 : Memref Cert.KernelIdeal.sig Kind.scVector Space.vmem Cert.KernelIdeal.S160 EltTy.f32)

/-- The block of the result the task writes, as the body slices it. -/
abbrev blkK (L : grid0.Coords) : Rect S2560 := Rect.unit (s := S2560) (k0_off5 L) S160.size (k0_off5_inb L)
abbrev oBlkK (L : grid0.Coords) : Memref sig .scVector .hbm S160 .f32 := (oV).slice (blkK L) (fun _ => rfl)

omit [FloatOps F] in
theorem blkK_eq : blkK L = blk (jL L) := by
  have h0 : (L 0).val = 0 := Nat.lt_one_iff.mp (L 0).isLt
  unfold blkK blk Rect.part Rect.block
  congr 1 <;> funext a
  · rw [k0_off5_eq]
    match a with
    | 0 => simp [Shape.partIx, Shape.partSize, h0]; omega
  · match a with
    | 0 => simp [Shape.partSize]

omit [FloatOps F] in
theorem set_oBlkK : (oBlkK L).view.set = blkSet (jL L) := by
  show (((oV).view.slice (blkK L))).set = ((oV).view.slice (blk (jL L))).set
  exact blkK_eq L ▸ rfl
omit [FloatOps F] in
theorem pts_oBlkK (f : Buf (Elt F) (oLoc d)) :
    ((oBlkK L).view.loc (V d (cV L) (jV L)) ↦[(oBlkK L).view.set]{fullShare} f : sProp 𝕄) = oLoc d ↦[blkSet (jL L)]{fullShare} f := by
  rw [set_oBlkK]

/-- The four DMA cells the body names. -/
abbrev cell (s : DmaSem sig) : GSem nD τ sig := (V d (cV L) (jV L), .dma s)

omit [FloatOps F] in
theorem ownSems0_V :
    (ownSems0 (V d (cV L) (jV L)) : sProp 𝕄)
      = iprop(semVal (cell d L cc0_scratch5.sem) 0 ∗ semVal (cell d L cc0_scratch6.sem) 0 ∗ semVal (cell d L cc0_scratch7.sem) 0 ∗ semVal (cell d L cc0_scoped0.sem) 0
          ∗ bigSep (((((ownCells (V d (cV L) (jV L))).erase (cell d L cc0_scratch5.sem)).erase (cell d L cc0_scratch6.sem)).erase (cell d L cc0_scratch7.sem)).erase
              (cell d L cc0_scoped0.sem)) fun g => semVal g 0) := by
  have hm : ∀ s : DmaSem sig, (SemLoc.dma s : SemLoc sig).isScoped .scVector = true → cell d L s ∈ ownCells (V d (cV L) (jV L)) :=
    fun s h => (mem_ownCells (g := cell d L s)).mpr ⟨rfl, h⟩
  have hne : ∀ s s' : DmaSem sig, s ≠ s' → cell d L s ≠ cell d L s' := fun s s' h e => h (by
    have := congrArg Prod.snd e; exact SemLoc.dma.inj this)
  unfold SparseCore.Cfg.ownSems0
  rw [SparseCore.bigSep_erase' (hm cc0_scratch5.sem (by decide)),
    SparseCore.bigSep_erase' (Finset.mem_erase.mpr ⟨hne cc0_scratch6.sem _ (by decide), hm cc0_scratch6.sem (by decide)⟩),
    SparseCore.bigSep_erase' (Finset.mem_erase.mpr ⟨hne cc0_scratch7.sem _ (by decide), Finset.mem_erase.mpr ⟨hne cc0_scratch7.sem _ (by decide), hm cc0_scratch7.sem (by decide)⟩⟩),
    SparseCore.bigSep_erase' (Finset.mem_erase.mpr ⟨hne cc0_scoped0.sem _ (by decide), Finset.mem_erase.mpr ⟨hne cc0_scoped0.sem _ (by decide),
      Finset.mem_erase.mpr ⟨hne cc0_scoped0.sem _ (by decide), hm cc0_scoped0.sem (by decide)⟩⟩⟩)]

omit [FloatOps F] in
/-- The subcore's own buffers are the five scratches, each at some contents, together with the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ (∃ f, (V d (cV L) (jV L)).loc cc0_scratch3 ↦{fullShare} f)
          ∗ (∃ f, (V d (cV L) (jV L)).loc cc0_scratch4 ↦{fullShare} f)
          ∗ bigSep ((((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2)).erase
              ((Proc.scVector (cV L) (jV L)).devRef cc0_scratch3)).erase ((Proc.scVector (cV L) (jV L)).devRef cc0_scratch4))
              fun b => iprop(∃ f, ((d, b) : Loc nD τ sig) ↦{fullShare} f)) := by
  have hm : ∀ r : Ref sig .scVector, ((Proc.scVector (cV L) (jV L)).devRef r).owner = .proc (.scVector (cV L) (jV L)) →
      (Proc.scVector (cV L) (jV L)).devRef r ∈ ownRefs (τ := τ) (.scVector (cV L) (jV L)) :=
    fun r h => SparseCore.Cfg.mem_ownRefs_of_owner (p := Proc.scVector (cV L) (jV L)) (b := (Proc.scVector (cV L) (jV L)).devRef r) h
  have hne : ∀ r r' : Ref sig .scVector, r ≠ r' → (Proc.scVector (cV L) (jV L)).devRef r ≠ (Proc.scVector (cV L) (jV L)).devRef r' :=
    fun r r' h e => h (Proc.devRef_injective _ e)
  unfold SparseCore.Cfg.ownBufs
  refine (SparseCore.bigSep_erase' (hm cc0_scratch0 rfl)).trans ?_
  rw [SparseCore.bigSep_erase' (Finset.mem_erase.mpr ⟨hne cc0_scratch1 _ (by decide), hm cc0_scratch1 rfl⟩),
    SparseCore.bigSep_erase' (Finset.mem_erase.mpr ⟨hne cc0_scratch2 _ (by decide), Finset.mem_erase.mpr ⟨hne cc0_scratch2 _ (by decide), hm cc0_scratch2 rfl⟩⟩),
    SparseCore.bigSep_erase' (Finset.mem_erase.mpr ⟨hne cc0_scratch3 _ (by decide), Finset.mem_erase.mpr ⟨hne cc0_scratch3 _ (by decide),
      Finset.mem_erase.mpr ⟨hne cc0_scratch3 _ (by decide), hm cc0_scratch3 rfl⟩⟩⟩),
    SparseCore.bigSep_erase' (Finset.mem_erase.mpr ⟨hne cc0_scratch4 _ (by decide), Finset.mem_erase.mpr ⟨hne cc0_scratch4 _ (by decide),
      Finset.mem_erase.mpr ⟨hne cc0_scratch4 _ (by decide), Finset.mem_erase.mpr ⟨hne cc0_scratch4 _ (by decide), hm cc0_scratch4 rfl⟩⟩⟩⟩)]

end Cert.Proof.Sc
-- ==== Proof.Trip.lean ====
/-
  One trip of the task's loop: four chunks of sixteen edges, each scatter-added into the accumulator and counted.
-/
module

public import proofs.«01_k».proof.Proof.Tile

@[expose] public section

noncomputable section

namespace Cert.Proof.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)
variable [FloatOps F]
variable (d : Dev nD) (L : grid0.Coords)

local notation "sV" => (Memref.whole Cert.KernelIdeal.main_arg4_scv : Memref Cert.KernelIdeal.sig Kind.scVector Space.hbm Cert.KernelIdeal.S4096 EltTy.i32)
local notation "dV" => (Memref.whole Cert.KernelIdeal.main_arg5_scv : Memref Cert.KernelIdeal.sig Kind.scVector Space.hbm Cert.KernelIdeal.S4096 EltTy.i32)
local notation "wV" => (Memref.whole Cert.KernelIdeal.main_arg1_scv : Memref Cert.KernelIdeal.sig Kind.scVector Space.hbm Cert.KernelIdeal.S4096 EltTy.f32)
local notation "oV" => (Memref.whole Cert.KernelIdeal.main_v0_scv : Memref Cert.KernelIdeal.sig Kind.scVector Space.hbm Cert.KernelIdeal.S2560 EltTy.f32)
local notation "bS" => (Memref.whole Cert.KernelIdeal.cc0_scratch0 : Memref Cert.KernelIdeal.sig Kind.scVector Space.vmem Cert.KernelIdeal.S4096 EltTy.i32)
local notation "bD" => (Memref.whole Cert.KernelIdeal.cc0_scratch1 : Memref Cert.KernelIdeal.sig Kind.scVector Space.vmem Cert.KernelIdeal.S4096 EltTy.i32)
local notation "bW" => (Memref.whole Cert.KernelIdeal.cc0_scratch2 : Memref Cert.KernelIdeal.sig Kind.scVector Space.vmem Cert.KernelIdeal.S4096 EltTy.f32)
local notation "bA" => (Memref.whole Cert.KernelIdeal.cc0_scratch3 : Memref Cert.KernelIdeal.sig Kind.scVector Space.vmem Cert.KernelIdeal.S2048 EltTy.f32)
local notation "bR" => (Memref.whole Cert.KernelIdeal.cc0_scratch4 : Memref Cert.KernelIdeal.sig Kind.scVector Space.vmem Cert.KernelIdeal.S160 EltTy.f32)

omit [FloatOps F] in
/-- A load of sixteen edges at chunk `c` of a whole table reads that chunk. -/
theorem load_chunk {e : EltTy} (v : Memref sig .scVector .vmem S4096 e) (f : v.view.ty.Contents (Elt F)) {off : Fin 1 → ℕ} (inb : ∀ a, off a + S16.size a ≤ S4096.size a)
    (c : ℕ) (h : off = ![16 * c]) : v.view.readAt (Elt F) (Rect.unit (s := S4096) off S16.size inb).toLoadRect f = Val.chunk (v.view.read (Elt F) f) c := by
  subst h
  funext x
  refine congrArg (v.view.read (Elt F) f) (funext fun a => ?_)
  match a with
  | 0 =>
    have h1 : (x 0).val < 16 := (x 0).isLt
    have h2 : 16 * c + 16 ≤ 4096 := inb 0
    exact Fin.ext (show 16 * c + 1 * (x 0).val = (16 * c + (x 0).val) % 4096 by omega)

/-- The task's four tables in its own memory, at their contents. -/
abbrev srcPts (s : IVec S4096 32) : sProp 𝕄 := (bS).view.loc (V d (cV L) (jV L)) ↦{fullShare} (s : Buf (Elt F) ((bS).view.loc (V d (cV L) (jV L))))
abbrev dstPts (s : IVec S4096 32) : sProp 𝕄 := (bD).view.loc (V d (cV L) (jV L)) ↦{fullShare} (s : Buf (Elt F) ((bD).view.loc (V d (cV L) (jV L))))
abbrev wgtPts (w : FVec F S4096 .f32) : sProp 𝕄 := (bW).view.loc (V d (cV L) (jV L)) ↦{fullShare} (w : Buf (Elt F) ((bW).view.loc (V d (cV L) (jV L))))
abbrev accPts (A : FVec F S2048 .f32) : sProp 𝕄 := (bA).view.loc (V d (cV L) (jV L)) ↦{fullShare} (A : Buf (Elt F) ((bA).view.loc (V d (cV L) (jV L))))

/-- The scatter-add at the head of a program: the accumulator gains the chunk. -/
theorem scatter_step {α : Type} (b : BitVec 32) (s dd : IVec S16 32) (w : FVec F S16 .f32) (hs : ∀ x, (s x).toNat < 2147483648) (A : FVec F S2048 .f32)
    {iv : IVec S16 32} {vv : FVec F S16 .f32} {mv : IVec S16 1} (hi : iv = Val.idxV b s dd) (hv : vv = Val.valV b s dd w) (hm : mv = Val.maskV b s dd)
    {h : ∀ a x, ((![iv] : Fin 1 → IVec S16 32) a x).toNat < S2048.size a} {hst : ((bA).access (.whole S2048)).Stores Finset.univ}
    {k : PUnit → Prog (TpuEff nD τ sig (Elt F) Λ₀ (.scVector (cV L) (jV L))) α} {Q : α → sProp 𝕄} :
    (accPts d L A : sProp 𝕄)
      ⊢ iprop((accPts d L (Val.scat b s dd w A)
          -∗ wp frame (wpE (defs₀ (F := F)) 𝒱₀ (V d (cV L) (jV L)) none) Set.univ (k ⟨⟩) Q)
        -∗ wp frame (wpE (defs₀ (F := F)) 𝒱₀ (V d (cV L) (jV L)) none) Set.univ
          (SparseCore.vectorStoreIdx bA ![iv] vv mv true h hst >>= k) Q) := by
  subst hi hv hm
  have key := SparseCore.wp_vectorStoreIdx (defs := defs₀ (F := F)) 𝒱₀ (V d (cV L) (jV L)) none Set.univ (Q := Q) (s := S2048) (base := bA) (idxs := ![Val.idxV b s dd])
    (v := Val.valV b s dd w) (mask := Val.maskV b s dd) (add := true) (h := h) (hs := hst) (k := k) (f := A)
  rw [show ((bA).access (.whole S2048)).set = Finset.univ from Memref.set_access_whole cc0_scratch3,
    show ((bA).access (.whole S2048)).read (Elt F) A = A from Memref.read_access_whole (Elt F) cc0_scratch3 A, Val.storeIdx_eq b s dd w hs A h,
    show ((bA).access (.whole S2048)).write (Elt F) A (Val.scat b s dd w A) Finset.univ = Val.scat b s dd w A
      from Memref.write_access_whole_univ (Elt F) cc0_scratch3 A (Val.scat b s dd w A)] at key
  exact key

/-- The four chunks' address words, masks and values, and the counts, as the body computes them. -/
theorem idx_0 (b : BitVec 32) (s d : IVec S16 32) : k0_pay6 (F := F) (iota .scVector S16 32 [0] iota_S16_d0_w32_scVector) b s d = Val.idxV b s d := rfl
theorem msk_0 (b : BitVec 32) (s d : IVec S16 32) : k0_pay5 (F := F) b s d = Val.maskV b s d := rfl
theorem val_0 (b : BitVec 32) (s d : IVec S16 32) (w : FVec F S16 .f32) : k0_pay7 w (k0_pay5 (F := F) b s d) = Val.valV b s d w := rfl
theorem idx_1 (b : BitVec 32) (s d : IVec S16 32) : k0_pay13 (F := F) s (k0_pay11 (F := F) b s d) (k0_pay12 (F := F) (iota .scVector S16 32 [0] iota_S16_d0_w32_scVector) b s d) = Val.idxV b s d := rfl
theorem msk_1 (b : BitVec 32) (s d : IVec S16 32) : k0_pay11 (F := F) b s d = Val.maskV b s d := rfl
theorem val_1 (b : BitVec 32) (s d : IVec S16 32) (w : FVec F S16 .f32) : k0_pay14 w (k0_pay11 (F := F) b s d) = Val.valV b s d w := rfl
theorem idx_2 (b : BitVec 32) (s d : IVec S16 32) : k0_pay21 (F := F) s (k0_pay18 (F := F) b s d) (k0_pay19 (iota .scVector S16 32 [0] iota_S16_d0_w32_scVector)) (k0_pay20 (F := F) b s d) = Val.idxV b s d := rfl
theorem msk_2 (b : BitVec 32) (s d : IVec S16 32) : k0_pay18 (F := F) b s d = Val.maskV b s d := rfl
theorem val_2 (b : BitVec 32) (s d : IVec S16 32) (w : FVec F S16 .f32) : k0_pay22 w (k0_pay18 (F := F) b s d) = Val.valV b s d w := rfl
theorem idx_3 (b : BitVec 32) (s d : IVec S16 32) : k0_pay158 (F := F) (iota .scVector S16 32 [0] iota_S16_d0_w32_scVector) s (k0_pay23 (F := F) b d) (k0_pay26 (F := F) b s d) k0_pay27 = Val.idxV b s d := rfl
theorem msk_3 (b : BitVec 32) (s d : IVec S16 32) : k0_pay26 (F := F) b s d = Val.maskV b s d := rfl
theorem val_3 (b : BitVec 32) (s d : IVec S16 32) (w : FVec F S16 .f32) : k0_pay159 w (k0_pay26 (F := F) b s d) = Val.valV b s d w := rfl
theorem cnt_0 (b : BitVec 32) (d0 d1 d2 d3 : IVec S16 32) (c : FVec F S16 .f32) :
    k0_pay24 b (k0_pay16 b (k0_pay9 b (k0_pay3 b c d0) d1) d2) d3 = Val.cntV b d3 (Val.cntV b d2 (Val.cntV b d1 (Val.cntV b d0 c))) := by
  have h : ∀ (d : IVec S16 32) (c : FVec F S16 .f32), Val.cntV (b + 0#32) d c = Val.cntV b d c := fun d c => by rw [BitVec.add_zero]
  rw [← h d0, ← h d1, ← h d2, ← h d3]; rfl
theorem cnt_1 (b : BitVec 32) (d0 d1 d2 d3 : IVec S16 32) (c : FVec F S16 .f32) :
    k0_pay25 b (k0_pay17 b (k0_pay10 b (k0_pay4 b c d0) d1) d2) d3
      = Val.cntV (b + 1#32) d3 (Val.cntV (b + 1#32) d2 (Val.cntV (b + 1#32) d1 (Val.cntV (b + 1#32) d0 c))) := rfl

/-- The four checks, each from what its address word is. -/
theorem chk_0 {iv jv : IVec S16 32} (h : iv = jv) (hj : ∀ a x, ((![jv] : Fin 1 → IVec S16 32) a x).toNat < S2048.size a) : k0_chk1 iv := h ▸ hj
theorem chk_1 {iv jv : IVec S16 32} (h : iv = jv) (hj : ∀ a x, ((![jv] : Fin 1 → IVec S16 32) a x).toNat < S2048.size a) : k0_chk2 iv := h ▸ hj
theorem chk_2 {iv jv : IVec S16 32} (h : iv = jv) (hj : ∀ a x, ((![jv] : Fin 1 → IVec S16 32) a x).toNat < S2048.size a) : k0_chk3 iv := h ▸ hj
theorem chk_3 {iv jv : IVec S16 32} (h : iv = jv) (hj : ∀ a x, ((![jv] : Fin 1 → IVec S16 32) a x).toNat < S2048.size a) : k0_chk4 iv := h ▸ hj

set_option maxHeartbeats 400000 in
/-- One trip of the loop, at the state after `4 * t` chunks: the state after four more. -/
theorem trip (s dd : IVec S4096 32) (w : FVec F S4096 .f32) (hs : ∀ x, (s x).toNat < 2147483648) (b : BitVec 32) (t : Fin k0_t1_loop.trips) (st : Val.St F)
    (z0 z1 : FVec F S16 .f32) (c0 c64 : BitVec 32) :
    iprop(srcPts d L s ∗ dstPts d L dd ∗ wgtPts d L w ∗ accPts d L st.acc)
      ⊢ wp frame (wpE (defs₀ (F := F)) 𝒱₀ (V d (cV L) (jV L)) none) Set.univ
          (k0_t1_body (F := F) L sV (Memref.isWhole_whole _) dV (Memref.isWhole_whole _) wV (Memref.isWhole_whole _) oV (Memref.isWhole_whole _)
            bS (Memref.isWhole_whole _) bD (Memref.isWhole_whole _) bW (Memref.isWhole_whole _) bA (Memref.isWhole_whole _) bR (Memref.isWhole_whole _)
            cc0_scratch5 cc0_scratch6 cc0_scratch7 cc0_scoped0 (iota .scVector S16 32 [0] iota_S16_d0_w32_scVector) b z0 z1 c0 c64 t (st.c0, st.c1))
          fun r => iprop(⌜r = ((Val.step b s dd w (4 * t + 3) (Val.step b s dd w (4 * t + 2) (Val.step b s dd w (4 * t + 1) (Val.step b s dd w (4 * t) st)))).c0,
                (Val.step b s dd w (4 * t + 3) (Val.step b s dd w (4 * t + 2) (Val.step b s dd w (4 * t + 1) (Val.step b s dd w (4 * t) st)))).c1)⌝
            ∗ srcPts d L s ∗ dstPts d L dd ∗ wgtPts d L w ∗ accPts d L (Val.step b s dd w (4 * t + 3) (Val.step b s dd w (4 * t + 2) (Val.step b s dd w (4 * t + 1) (Val.step b s dd w (4 * t) st)))).acc) := by
  unfold k0_t1_body
  simp only [k0_part1_eq_skeleton, k0_part2_eq_skeleton, k0_part3_eq_skeleton, k0_part4_eq_skeleton]
  have hch : ∀ c x, (Val.chunk s c x).toNat < 2147483648 := fun c x => hs _
  have ld : ∀ (k : ℕ) (off : Fin 1 → ℕ) (inb : ∀ a, off a + S16.size a ≤ S4096.size a) (h : off = ![64 * t.val + 16 * k]),
      (bS).view.readAt (Elt F) (Rect.unit (s := S4096) off S16.size inb).toLoadRect s = Val.chunk s (4 * t + k)
      ∧ (bD).view.readAt (Elt F) (Rect.unit (s := S4096) off S16.size inb).toLoadRect dd = Val.chunk dd (4 * t + k)
      ∧ (bW).view.readAt (Elt F) (Rect.unit (s := S4096) off S16.size inb).toLoadRect w = Val.chunk w (4 * t + k) := fun k off inb h =>
    have h' : off = ![16 * (4 * t.val + k)] := h.trans (by congr 1; omega)
    ⟨load_chunk bS s inb _ h', load_chunk bD dd inb _ h', load_chunk bW w inb _ h'⟩
  obtain ⟨s0, d0, w0⟩ := ld 0 _ (k0_off1_inb t) (k0_off1_eq t)
  obtain ⟨s1, d1, w1⟩ := ld 1 _ (k0_off2_inb t) (k0_off2_eq t)
  obtain ⟨s2, d2, w2⟩ := ld 2 _ (k0_off3_inb t) (k0_off3_eq t)
  obtain ⟨s3, d3, w3⟩ := ld 3 _ (k0_off4_inb t) (k0_off4_eq t)
  have ok : ∀ k, ∀ a x, ((![Val.idxV b (Val.chunk s k) (Val.chunk dd k)] : Fin 1 → IVec S16 32) a x).toNat < S2048.size a := fun k a x => by
    match a with
    | 0 => exact (Val.idxV_lt b _ _ (hch k) x).1
  iintro ⟨HbS, HbD, HbW, HbA⟩
  sl_exec
  rw [wp_assume_of]
  case h => exact chk_0 (idx_0 (F := F) b (Val.chunk s (4 * t + 0)) (Val.chunk dd (4 * t + 0))) (ok _)
  iapply (scatter_step d L b (Val.chunk s (4 * t + 0)) (Val.chunk dd (4 * t + 0)) (Val.chunk w (4 * t + 0)) (hch _) _
    (idx_0 (F := F) b _ _) (val_0 b _ _ _) (msk_0 (F := F) b _ _)) $$ HbA
  iintro HbA
  sl_exec
  rw [wp_assume_of]
  case h => exact chk_1 (idx_1 (F := F) b (Val.chunk s (4 * t + 1)) (Val.chunk dd (4 * t + 1))) (ok _)
  iapply (scatter_step d L b (Val.chunk s (4 * t + 1)) (Val.chunk dd (4 * t + 1)) (Val.chunk w (4 * t + 1)) (hch _) _
    (idx_1 (F := F) b _ _) (val_1 b _ _ _) (msk_1 (F := F) b _ _)) $$ HbA
  iintro HbA
  sl_exec
  rw [wp_assume_of]
  case h => exact chk_2 (idx_2 (F := F) b (Val.chunk s (4 * t + 2)) (Val.chunk dd (4 * t + 2))) (ok _)
  iapply (scatter_step d L b (Val.chunk s (4 * t + 2)) (Val.chunk dd (4 * t + 2)) (Val.chunk w (4 * t + 2)) (hch _) _
    (idx_2 (F := F) b _ _) (val_2 b _ _ _) (msk_2 (F := F) b _ _)) $$ HbA
  iintro HbA
  sl_exec
  rw [wp_assume_of]
  case h => exact chk_3 (idx_3 (F := F) b (Val.chunk s (4 * t + 3)) (Val.chunk dd (4 * t + 3))) (ok _)
  iapply (scatter_step d L b (Val.chunk s (4 * t + 3)) (Val.chunk dd (4 * t + 3)) (Val.chunk w (4 * t + 3)) (hch _) _
    (idx_3 (F := F) b _ _) (val_3 b _ _ _) (msk_3 (F := F) b _ _)) $$ HbA
  iintro HbA
  sl_step
  isplitr
  · ipureintro
    refine Prod.ext ((cnt_0 (F := F) b _ _ _ _ _).trans ?_) ((cnt_1 (F := F) b _ _ _ _ _).trans ?_)
    · rfl
    · rfl
  isplitl [HbS]; · iexact HbS
  isplitl [HbD]; · iexact HbD
  isplitl [HbW]; · iexact HbW
  iexact HbA

end Cert.Proof.Sc
-- ==== Proof.Body.lean ====
module

public import proofs.«01_k».proof.Proof.Trip
public import Idealize.ShloMosaic.Lib.Ring

@[expose] public section

noncomputable section

namespace Cert.Proof.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)
variable [FloatOps F]
variable (d : Dev nD) (L : grid0.Coords)

local notation "sV" => (Memref.whole Cert.KernelIdeal.main_arg4_scv : Memref Cert.KernelIdeal.sig Kind.scVector Space.hbm Cert.KernelIdeal.S4096 EltTy.i32)
local notation "dV" => (Memref.whole Cert.KernelIdeal.main_arg5_scv : Memref Cert.KernelIdeal.sig Kind.scVector Space.hbm Cert.KernelIdeal.S4096 EltTy.i32)
local notation "wV" => (Memref.whole Cert.KernelIdeal.main_arg1_scv : Memref Cert.KernelIdeal.sig Kind.scVector Space.hbm Cert.KernelIdeal.S4096 EltTy.f32)
local notation "oV" => (Memref.whole Cert.KernelIdeal.main_v0_scv : Memref Cert.KernelIdeal.sig Kind.scVector Space.hbm Cert.KernelIdeal.S2560 EltTy.f32)
local notation "bS" => (Memref.whole Cert.KernelIdeal.cc0_scratch0 : Memref Cert.KernelIdeal.sig Kind.scVector Space.vmem Cert.KernelIdeal.S4096 EltTy.i32)
local notation "bD" => (Memref.whole Cert.KernelIdeal.cc0_scratch1 : Memref Cert.KernelIdeal.sig Kind.scVector Space.vmem Cert.KernelIdeal.S4096 EltTy.i32)
local notation "bW" => (Memref.whole Cert.KernelIdeal.cc0_scratch2 : Memref Cert.KernelIdeal.sig Kind.scVector Space.vmem Cert.KernelIdeal.S4096 EltTy.f32)
local notation "bA" => (Memref.whole Cert.KernelIdeal.cc0_scratch3 : Memref Cert.KernelIdeal.sig Kind.scVector Space.vmem Cert.KernelIdeal.S2048 EltTy.f32)
local notation "bR" => (Memref.whole Cert.KernelIdeal.cc0_scratch4 : Memref Cert.KernelIdeal.sig Kind.scVector Space.vmem Cert.KernelIdeal.S160 EltTy.f32)

/-- The subcore's first node. -/
abbrev bL (L : grid0.Coords) : BitVec 32 := 2#32 * BitVec.ofNat 32 (jL L).val

omit [FloatOps F] in
/-- The body's own arithmetic for its first node: twice its subcore's number. -/
theorem bL_eq : Scalar.muli (Scalar.addi (Scalar.muli (BitVec.ofNat 32 (L 1).val) 1#32) (BitVec.ofNat 32 (L 0).val)) 2#32 = bL L := by
  have h0 : (L 0).val = 0 := Nat.lt_one_iff.mp (L 0).isLt
  show (BitVec.ofNat 32 (L 1).val * 1#32 + BitVec.ofNat 32 (L 0).val) * 2#32 = 2#32 * BitVec.ofNat 32 (L 1).val
  rw [h0, BitVec.mul_one, BitVec.add_zero, BitVec.mul_comm]

/-- Before trip `k` of the loop: the tables in place, the accumulator and the carried counts those of the first `4 * k` chunks. -/
def inv (k : ℕ) (r : FVec F S16 .f32 × FVec F S16 .f32) : sProp 𝕄 :=
  iprop(⌜r = ((Val.stAt (bL L) (m (sLoc d)) (m (dLoc d)) (m (wLoc d)) (4 * k)).c0, (Val.stAt (bL L) (m (sLoc d)) (m (dLoc d)) (m (wLoc d)) (4 * k)).c1)⌝
    ∗ srcPts d L (m (sLoc d)) ∗ dstPts d L (m (dLoc d)) ∗ wgtPts d L (m (wLoc d)) ∗ accPts d L (Val.stAt (bL L) (m (sLoc d)) (m (dLoc d)) (m (wLoc d)) (4 * k)).acc)

/-- A load of sixteen words from `o` of the accumulator reads that slab. -/
theorem slab_load (A : FVec F S2048 .f32) (o : ℕ) (inb : ∀ a, (![o] : Fin 1 → ℕ) a + S16.size a ≤ S2048.size a) :
    View.readAt (Elt F) (bA).view (Rect.unit (s := S2048) ![o] S16.size inb).toLoadRect A = Val.slab A o := by
  funext x
  refine congrArg A (funext fun a => ?_)
  match a with
  | 0 =>
    have h1 : (x 0).val < 16 := (x 0).isLt
    have h2 : o + 16 ≤ 2048 := inb 0
    exact Fin.ext (show o + 1 * (x 0).val = (o + (x 0).val) % 2048 by omega)

/-- Sixteen slabs added in lane order are the sum over the lanes. -/
theorem sum16 (A : FVec F S2048 .f32) (o : ℕ) {l0 l1 l2 l3 l4 l5 l6 l7 l8 l9 l10 l11 l12 l13 l14 l15 : FVec F S16 .f32} (h0 : l0 = Val.slab A o) (h1 : l1 = Val.slab A (128 + o)) (h2 : l2 = Val.slab A (256 + o)) (h3 : l3 = Val.slab A (384 + o)) (h4 : l4 = Val.slab A (512 + o)) (h5 : l5 = Val.slab A (640 + o)) (h6 : l6 = Val.slab A (768 + o)) (h7 : l7 = Val.slab A (896 + o)) (h8 : l8 = Val.slab A (1024 + o)) (h9 : l9 = Val.slab A (1152 + o)) (h10 : l10 = Val.slab A (1280 + o)) (h11 : l11 = Val.slab A (1408 + o)) (h12 : l12 = Val.slab A (1536 + o)) (h13 : l13 = Val.slab A (1664 + o)) (h14 : l14 = Val.slab A (1792 + o)) (h15 : l15 = Val.slab A (1920 + o)) :
    (addf (addf (addf (addf (addf (addf (addf (addf (addf (addf (addf (addf (addf (addf (addf l0 l1) l2) l3) l4) l5) l6) l7) l8) l9) l10) l11) l12) l13) l14) l15) = Val.sumV A o 15 := by
  subst h0 h1 h2 h3 h4 h5 h6 h7 h8 h9 h10 h11 h12 h13 h14 h15
  rfl

/-- The sixteen words of the row from `16 * k` are piece `k`. -/
theorem row_piece (st : Val.St F) (k o : ℕ) (ho : o = 16 * k) (inb : ∀ a, (![o] : Fin 1 → ℕ) a + S16.size a ≤ S160.size a) (p : FVec F S16 .f32)
    (hp : p = Val.piece st k) (x : S16.Idx) : p x = Val.rowOf st ((Rect.unit (s := S160) ![o] S16.size inb).emb x) := by
  subst ho hp
  have h1 : (x 0).val < 16 := (x 0).isLt
  have e1 : (16 * k + 1 * (x 0).val) / 16 = k := by omega
  have e2 : (16 * k + 1 * (x 0).val) % 16 = (x 0).val := by omega
  show _ = Val.piece st ((16 * k + 1 * (x 0).val) / 16) (Shape.ofLane (d := ![16]) ⟨(16 * k + 1 * (x 0).val) % 16, Nat.mod_lt _ (by decide)⟩)
  rw [e1]
  refine congrArg _ (funext fun a => ?_)
  match a with
  | 0 => exact Fin.ext e2.symm

/-- A buffer filled with equal words, piece after piece, holds that word everywhere. -/
theorem fill (l : List (View.Piece (Elt F) S2048 .f32)) (z : F .f32) (hl : ∀ p ∈ l, ∀ x, p.2 x = z) (hc : ∀ y, ∃ p ∈ l, y ∈ p.1.set)
    (f : FVec F S2048 .f32) : (bA).view.writes (Elt F) f l = broadcast S2048 z :=
  funext fun y => show (bA).view.read (Elt F) ((bA).view.writes (Elt F) f l) y = z from View.read_writes_apply_of_pieces (v := (bA).view) (f := f) (G := fun _ => z) l hl y (hc y)

/-- Where the body's block of the result starts. -/
theorem off5_val : k0_off5 L 0 = 160 * (jL L).val := by
  have h0 : (L 0).val = 0 := Nat.lt_one_iff.mp (L 0).isLt
  rw [k0_off5_eq]
  simp [h0]; try omega

/-- The body's block of the result is the row of its two nodes. -/
theorem out_at (x : S160.Idx) :
    Val.rowOf (Val.stAt (bL L) (m (sLoc d)) (m (dLoc d)) (m (wLoc d)) 256) x = OUT m d ((oBlkK L).view.emb x) := by
  have h1 : (x 0).val < 160 := (x 0).isLt
  have e : ((oBlkK L).view.emb x (0 : Fin 1)).val = 160 * (jL L).val + (x 0).val := by
    show k0_off5 L 0 + 1 * (x 0).val = _
    rw [off5_val, one_mul]
  have e1 : ((oBlkK L).view.emb x (0 : Fin 1)).val / 160 = (jL L).val := by omega
  have e2 : ((oBlkK L).view.emb x (0 : Fin 1)).val % 160 = (x 0).val := by omega
  show _ = Val.rowOf (Val.stAt (2#32 * BitVec.ofNat 32 (((oBlkK L).view.emb x (0 : Fin 1)).val / 160)) (m (sLoc d)) (m (dLoc d)) (m (wLoc d)) 256)
    (Shape.ofLane (d := ![160]) ⟨((oBlkK L).view.emb x (0 : Fin 1)).val % 160, Nat.mod_lt _ (by decide)⟩)
  rw [e1]
  refine congrArg _ (funext fun a => ?_)
  match a with
  | 0 => exact Fin.ext e2.symm

/-- Writing that row over the block leaves the block at the result's contents. -/
theorem out_pts (f : Buf (Elt F) (oLoc d)) (w : FVec F S160 .f32) (hw : w = Val.rowOf (Val.stAt (bL L) (m (sLoc d)) (m (dLoc d)) (m (wLoc d)) 256)) :
    ((oBlkK L).view.loc (V d (cV L) (jV L)) ↦[(oBlkK L).view.set]{fullShare} (oBlkK L).view.writes (Elt F) f [⟨Rect.whole S160, w⟩] : sProp 𝕄)
      = oLoc d ↦[blkSet (jL L)]{fullShare} OUT m d := by
  rw [← pts_oBlkK]
  refine pointsTo_congr fun i hi => ?_
  obtain ⟨x, -, rfl⟩ := Finset.mem_map.mp hi
  refine View.read_writes_apply_of_pieces (v := (oBlkK L).view) (f := f) (G := fun x => OUT m d ((oBlkK L).view.emb x)) [⟨Rect.whole S160, w⟩]
    (fun p hp y => ?_) x ⟨_, List.mem_cons_self, by rw [Rect.set_whole]; exact Finset.mem_univ _⟩
  rw [List.mem_singleton] at hp
  subst hp hw
  refine (out_at m d L y).trans (congrArg (fun z => OUT m d ((oBlkK L).view.emb z)) (funext fun a => Fin.ext ?_))
  show (y a).val = 0 + 1 * (y a).val
  omega

/-- One trip carries the invariant on. -/
theorem trip_inv (hpre : PreOK m) (t : Fin k0_t1_loop.trips) (b : BitVec 32) (hb : b = bL L) :
    iprop(srcPts d L (m (sLoc d)) ∗ dstPts d L (m (dLoc d)) ∗ wgtPts d L (m (wLoc d)) ∗ accPts d L (Val.stAt (bL L) (m (sLoc d)) (m (dLoc d)) (m (wLoc d)) (4 * t.val)).acc)
      ⊢ wp frame (wpE (defs₀ (F := F)) 𝒱₀ (V d (cV L) (jV L)) none) Set.univ (k0_t1_body L sV (Memref.isWhole_whole _) dV (Memref.isWhole_whole _) wV (Memref.isWhole_whole _) oV (Memref.isWhole_whole _)
            bS (Memref.isWhole_whole _) bD (Memref.isWhole_whole _) bW (Memref.isWhole_whole _) bA (Memref.isWhole_whole _) bR (Memref.isWhole_whole _)
            cc0_scratch5 cc0_scratch6 cc0_scratch7 cc0_scoped0 (iota .scVector S16 32 [0] iota_S16_d0_w32_scVector) b k0_pay156 k0_pay157 0#32 64#32 t
            ((Val.stAt (bL L) (m (sLoc d)) (m (dLoc d)) (m (wLoc d)) (4 * t.val)).c0, (Val.stAt (bL L) (m (sLoc d)) (m (dLoc d)) (m (wLoc d)) (4 * t.val)).c1))
          (inv m d L (t.val + 1)) := by
  subst hb
  exact trip d L (m (sLoc d)) (m (dLoc d)) (m (wLoc d)) (hpre d) (bL L) t (Val.stAt (bL L) (m (sLoc d)) (m (dLoc d)) (m (wLoc d)) (4 * t.val)) k0_pay156 k0_pay157 0#32 64#32

omit [FloatOps F] in
/-- The share of the sources, said over the whole array's view. -/
theorem pts_sV : (sPts m d (tq (jL L)) : sProp 𝕄) = ((sV).view.loc (V d (cV L) (jV L)) ↦[(sV).view.set]{tq (jL L)} m (sLoc d)) := by
  rw [show (sV).view.set = Finset.univ from View.set_whole _]
omit [FloatOps F] in
/-- The share of the destinations, said over the whole array's view. -/
theorem pts_dV : (dPts m d (tq (jL L)) : sProp 𝕄) = ((dV).view.loc (V d (cV L) (jV L)) ↦[(dV).view.set]{tq (jL L)} m (dLoc d)) := by
  rw [show (dV).view.set = Finset.univ from View.set_whole _]
omit [FloatOps F] in
/-- The share of the weights, said over the whole array's view. -/
theorem pts_wV : (wPts m d (tq (jL L)) : sProp 𝕄) = ((wV).view.loc (V d (cV L) (jV L)) ↦[(wV).view.set]{tq (jL L)} m (wLoc d)) := by
  rw [show (wV).view.set = Finset.univ from View.set_whole _]

/-- The subcore's body: from the read shares of the three inputs, its block of the result and its own scratch, it returns
    the shares and its block holding the sums and counts of its two nodes. -/
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp
        ∗ ((sPts m d (tq (jL L)) ∗ dPts m d (tq (jL L)) ∗ wPts m d (tq (jL L))) ∗ oBlk d (jL L) (m (oLoc d)))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_body L sV (Memref.isWhole_whole _) dV (Memref.isWhole_whole _) wV (Memref.isWhole_whole _) oV (Memref.isWhole_whole _)
            bS (Memref.isWhole_whole _) bD (Memref.isWhole_whole _) bW (Memref.isWhole_whole _) bA (Memref.isWhole_whole _) bR (Memref.isWhole_whole _)
            cc0_scratch5 cc0_scratch6 cc0_scratch7 cc0_scoped0)
          fun _ => iprop(((sPts m d (tq (jL L)) ∗ dPts m d (tq (jL L)) ∗ wPts m d (tq (jL L))) ∗ oBlk d (jL L) (OUT m d))
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  rw [(K (F := F)).scopedBufs_V hF d (cV L) (jV L), SparseCore.Cfg.scopedSems0_V (Val := Elt F) d (cV L) (jV L), ownSems0_V, ownBufs_V]
  iintro ⟨#Hlv, -, ⟨⟨Hs, Hd, Hw⟩, Ho⟩, ⟨⟨%fs, HbS⟩, ⟨%fd, HbD⟩, ⟨%fw, HbW⟩, ⟨%fa, HbA⟩, ⟨%fr, HbR⟩, Hbufs⟩, ⟨Hc5, Hc6, Hc7, Hc0, Hsems⟩, HO⟩
  simp only [cc0__sc_body_eq_skeleton]
  unfold cc0__sc_body_skel
  simp only [k0_part22_eq_skeleton]
  unfold k0_part22_skel
  simp only [k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hs := (Entails.of_eq (pts_sV m d L)) $$ Hs
  ihave Hd := (Entails.of_eq (pts_dV m d L)) $$ Hd
  ihave Hw := (Entails.of_eq (pts_wV m d L)) $$ Hw
  ihave HbS := (show (_ : sProp 𝕄) ⊢ (bS).view.loc (V d (cV L) (jV L)) ↦{fullShare} fs from .rfl) $$ HbS
  ihave HbD := (show (_ : sProp 𝕄) ⊢ (bD).view.loc (V d (cV L) (jV L)) ↦{fullShare} fd from .rfl) $$ HbD
  ihave HbW := (show (_ : sProp 𝕄) ⊢ (bW).view.loc (V d (cV L) (jV L)) ↦{fullShare} fw from .rfl) $$ HbW
  ihave HbA := (show (_ : sProp 𝕄) ⊢ (bA).view.loc (V d (cV L) (jV L)) ↦{fullShare} fa from .rfl) $$ HbA
  ihave HbR := (show (_ : sProp 𝕄) ⊢ (bR).view.loc (V d (cV L) (jV L)) ↦{fullShare} fr from .rfl) $$ HbR
  ihave Ho := (Entails.of_eq (pts_oBlkK (F := F) d L _).symm) $$ Ho
  sl_exec (disch := exact View.amount_pos _ _ (show 0 < S4096.numel by decide))

  have hb : tile_body.sl.v3 L = bL L := bL_eq L
  sl_for (inv m d L) $$ [HbS HbD HbW HbA]
  case region =>
    intro t r
    unfold inv
    iintro ⟨%hr, HbS, HbD, HbW, HbA⟩
    subst hr
    iapply (trip_inv m d L hpre t _ hb) $$ [HbS HbD HbW HbA]
    isplitl [HbS]; · iexact HbS
    isplitl [HbD]; · iexact HbD
    isplitl [HbW]; · iexact HbW
    iexact HbA
  · unfold inv
    isplitr
    · ipureintro; rfl
    isplitl [HbS]
    · iapply (Entails.of_eq (congrArg (srcPts (F := F) d L) (View.write_whole_univ cc0_scratch0 fs (m (sLoc d))))); iexact HbS
    isplitl [HbD]
    · iapply (Entails.of_eq (congrArg (dstPts (F := F) d L) (View.write_whole_univ cc0_scratch1 fd (m (dLoc d))))); iexact HbD
    isplitl [HbW]
    · iapply (Entails.of_eq (congrArg (wgtPts (F := F) d L) (View.write_whole_univ cc0_scratch2 fw (m (wLoc d))))); iexact HbW
    iapply (Entails.of_eq (congrArg (accPts (F := F) d L) (fill (tile_body.sl.HbA_128 (F := F)) Val.z0 (by
      unfold tile_body.sl.HbA_128
      repeat' (refine List.forall_mem_cons.mpr ⟨fun _ => rfl, ?_⟩)
      exact fun p hp => absurd hp List.not_mem_nil) (View.cover_of_tiledL _ S16.size (by sl_kernel_rfl)) _)))
    iexact HbA
  iintro %r HI
  unfold inv
  icases HI with ⟨%hr, HbS, HbD, HbW, HbA⟩
  subst hr
  sl_exec
  have hrow : tile_body.sl.dma148 m d L fr = Val.rowOf (Val.stAt (bL L) (m (sLoc d)) (m (dLoc d)) (m (wLoc d)) 256) := by
    have h256 : 4 * Scf.trips k0_t1_loop.lb k0_t1_loop.ub k0_t1_loop.st = 256 := by decide
    rw [← h256]
    funext y
    show (bR).view.read (Elt F) ((bR).view.writes (Elt F) fr (tile_body.sl.HbR_10 m d L)) y = _
    refine View.read_writes_apply_of_pieces _ _ (Val.rowOf _) (tile_body.sl.HbR_10 m d L) ?_ y (View.cover_of_tiledL (s := S160) (tile_body.sl.HbR_10 m d L) S16.size (by sl_kernel_rfl) y)
    unfold tile_body.sl.HbR_10
    refine List.forall_mem_cons.mpr ⟨row_piece _ 9 144 rfl inb_S160_S16_144 _ ?_, ?_⟩
    · rfl
    refine List.forall_mem_cons.mpr ⟨row_piece _ 8 128 rfl inb_S160_S16_128 _ ?_, ?_⟩
    · dsimp only
      exact sum16 _ 112 (slab_load _ 112 inb_S2048_S16_112) (slab_load _ 240 inb_S2048_S16_240) (slab_load _ 368 inb_S2048_S16_368) (slab_load _ 496 inb_S2048_S16_496) (slab_load _ 624 inb_S2048_S16_624) (slab_load _ 752 inb_S2048_S16_752) (slab_load _ 880 inb_S2048_S16_880) (slab_load _ 1008 inb_S2048_S16_1008) (slab_load _ 1136 inb_S2048_S16_1136) (slab_load _ 1264 inb_S2048_S16_1264) (slab_load _ 1392 inb_S2048_S16_1392) (slab_load _ 1520 inb_S2048_S16_1520) (slab_load _ 1648 inb_S2048_S16_1648) (slab_load _ 1776 inb_S2048_S16_1776) (slab_load _ 1904 inb_S2048_S16_1904) (slab_load _ 2032 inb_S2048_S16_2032)
    refine List.forall_mem_cons.mpr ⟨row_piece _ 7 112 rfl inb_S160_S16_112 _ ?_, ?_⟩
    · exact sum16 _ 96 (slab_load _ 96 inb_S2048_S16_96) (slab_load _ 224 inb_S2048_S16_224) (slab_load _ 352 inb_S2048_S16_352) (slab_load _ 480 inb_S2048_S16_480) (slab_load _ 608 inb_S2048_S16_608) (slab_load _ 736 inb_S2048_S16_736) (slab_load _ 864 inb_S2048_S16_864) (slab_load _ 992 inb_S2048_S16_992) (slab_load _ 1120 inb_S2048_S16_1120) (slab_load _ 1248 inb_S2048_S16_1248) (slab_load _ 1376 inb_S2048_S16_1376) (slab_load _ 1504 inb_S2048_S16_1504) (slab_load _ 1632 inb_S2048_S16_1632) (slab_load _ 1760 inb_S2048_S16_1760) (slab_load _ 1888 inb_S2048_S16_1888) (slab_load _ 2016 inb_S2048_S16_2016)
    refine List.forall_mem_cons.mpr ⟨row_piece _ 6 96 rfl inb_S160_S16_96 _ ?_, ?_⟩
    · exact sum16 _ 80 (slab_load _ 80 inb_S2048_S16_80) (slab_load _ 208 inb_S2048_S16_208) (slab_load _ 336 inb_S2048_S16_336) (slab_load _ 464 inb_S2048_S16_464) (slab_load _ 592 inb_S2048_S16_592) (slab_load _ 720 inb_S2048_S16_720) (slab_load _ 848 inb_S2048_S16_848) (slab_load _ 976 inb_S2048_S16_976) (slab_load _ 1104 inb_S2048_S16_1104) (slab_load _ 1232 inb_S2048_S16_1232) (slab_load _ 1360 inb_S2048_S16_1360) (slab_load _ 1488 inb_S2048_S16_1488) (slab_load _ 1616 inb_S2048_S16_1616) (slab_load _ 1744 inb_S2048_S16_1744) (slab_load _ 1872 inb_S2048_S16_1872) (slab_load _ 2000 inb_S2048_S16_2000)
    refine List.forall_mem_cons.mpr ⟨row_piece _ 5 80 rfl inb_S160_S16_80 _ ?_, ?_⟩
    · exact sum16 _ 64 (slab_load _ 64 inb_S2048_S16_64) (slab_load _ 192 inb_S2048_S16_192) (slab_load _ 320 inb_S2048_S16_320) (slab_load _ 448 inb_S2048_S16_448) (slab_load _ 576 inb_S2048_S16_576) (slab_load _ 704 inb_S2048_S16_704) (slab_load _ 832 inb_S2048_S16_832) (slab_load _ 960 inb_S2048_S16_960) (slab_load _ 1088 inb_S2048_S16_1088) (slab_load _ 1216 inb_S2048_S16_1216) (slab_load _ 1344 inb_S2048_S16_1344) (slab_load _ 1472 inb_S2048_S16_1472) (slab_load _ 1600 inb_S2048_S16_1600) (slab_load _ 1728 inb_S2048_S16_1728) (slab_load _ 1856 inb_S2048_S16_1856) (slab_load _ 1984 inb_S2048_S16_1984)
    refine List.forall_mem_cons.mpr ⟨row_piece _ 4 64 rfl inb_S160_S16_64 _ ?_, ?_⟩
    · rfl
    refine List.forall_mem_cons.mpr ⟨row_piece _ 3 48 rfl inb_S160_S16_48 _ ?_, ?_⟩
    · exact sum16 _ 48 (slab_load _ 48 inb_S2048_S16_48) (slab_load _ 176 inb_S2048_S16_176) (slab_load _ 304 inb_S2048_S16_304) (slab_load _ 432 inb_S2048_S16_432) (slab_load _ 560 inb_S2048_S16_560) (slab_load _ 688 inb_S2048_S16_688) (slab_load _ 816 inb_S2048_S16_816) (slab_load _ 944 inb_S2048_S16_944) (slab_load _ 1072 inb_S2048_S16_1072) (slab_load _ 1200 inb_S2048_S16_1200) (slab_load _ 1328 inb_S2048_S16_1328) (slab_load _ 1456 inb_S2048_S16_1456) (slab_load _ 1584 inb_S2048_S16_1584) (slab_load _ 1712 inb_S2048_S16_1712) (slab_load _ 1840 inb_S2048_S16_1840) (slab_load _ 1968 inb_S2048_S16_1968)
    refine List.forall_mem_cons.mpr ⟨row_piece _ 2 32 rfl inb_S160_S16_32 _ ?_, ?_⟩
    · exact sum16 _ 32 (slab_load _ 32 inb_S2048_S16_32) (slab_load _ 160 inb_S2048_S16_160) (slab_load _ 288 inb_S2048_S16_288) (slab_load _ 416 inb_S2048_S16_416) (slab_load _ 544 inb_S2048_S16_544) (slab_load _ 672 inb_S2048_S16_672) (slab_load _ 800 inb_S2048_S16_800) (slab_load _ 928 inb_S2048_S16_928) (slab_load _ 1056 inb_S2048_S16_1056) (slab_load _ 1184 inb_S2048_S16_1184) (slab_load _ 1312 inb_S2048_S16_1312) (slab_load _ 1440 inb_S2048_S16_1440) (slab_load _ 1568 inb_S2048_S16_1568) (slab_load _ 1696 inb_S2048_S16_1696) (slab_load _ 1824 inb_S2048_S16_1824) (slab_load _ 1952 inb_S2048_S16_1952)
    refine List.forall_mem_cons.mpr ⟨row_piece _ 1 16 rfl inb_S160_S16_16 _ ?_, ?_⟩
    · exact sum16 _ 16 (slab_load _ 16 inb_S2048_S16_16) (slab_load _ 144 inb_S2048_S16_144) (slab_load _ 272 inb_S2048_S16_272) (slab_load _ 400 inb_S2048_S16_400) (slab_load _ 528 inb_S2048_S16_528) (slab_load _ 656 inb_S2048_S16_656) (slab_load _ 784 inb_S2048_S16_784) (slab_load _ 912 inb_S2048_S16_912) (slab_load _ 1040 inb_S2048_S16_1040) (slab_load _ 1168 inb_S2048_S16_1168) (slab_load _ 1296 inb_S2048_S16_1296) (slab_load _ 1424 inb_S2048_S16_1424) (slab_load _ 1552 inb_S2048_S16_1552) (slab_load _ 1680 inb_S2048_S16_1680) (slab_load _ 1808 inb_S2048_S16_1808) (slab_load _ 1936 inb_S2048_S16_1936)
    refine List.forall_mem_cons.mpr ⟨row_piece _ 0 0 rfl inb_S160_S16_0 _ ?_, ?_⟩
    · exact sum16 _ 0 (slab_load _ 0 inb_S2048_S16_0) (slab_load _ 128 inb_S2048_S16_128) (slab_load _ 256 inb_S2048_S16_256) (slab_load _ 384 inb_S2048_S16_384) (slab_load _ 512 inb_S2048_S16_512) (slab_load _ 640 inb_S2048_S16_640) (slab_load _ 768 inb_S2048_S16_768) (slab_load _ 896 inb_S2048_S16_896) (slab_load _ 1024 inb_S2048_S16_1024) (slab_load _ 1152 inb_S2048_S16_1152) (slab_load _ 1280 inb_S2048_S16_1280) (slab_load _ 1408 inb_S2048_S16_1408) (slab_load _ 1536 inb_S2048_S16_1536) (slab_load _ 1664 inb_S2048_S16_1664) (slab_load _ 1792 inb_S2048_S16_1792) (slab_load _ 1920 inb_S2048_S16_1920)
    exact fun p hp => absurd hp List.not_mem_nil
  sl_step
  isplitl [Hs Hd Hw Ho]
  · isplitl [Hs Hd Hw]
    · isplitl [Hs]; · iapply (Entails.of_eq (pts_sV m d L).symm); iexact Hs
      isplitl [Hd]; · iapply (Entails.of_eq (pts_dV m d L).symm); iexact Hd
      iapply (Entails.of_eq (pts_wV m d L).symm); iexact Hw
    iapply (Entails.of_eq (out_pts m d L _ _ hrow)); iexact Ho
  isplitl [HbS HbD HbW HbA HbR Hbufs]
  · isplitl [HbS]; · iexists _; iexact HbS
    isplitl [HbD]; · iexists _; iexact HbD
    isplitl [HbW]; · iexists _; iexact HbW
    isplitl [HbA]; · iexists _; iexact HbA
    isplitl [HbR]; · iexists _; iexact HbR
    iexact Hbufs
  isplitl [Hc5 Hc6 Hc7 Hc0 Hsems]
  · isplitl [Hc5]; · iexact Hc5
    isplitl [Hc6]; · iexact Hc6
    isplitl [Hc7]; · iexact Hc7
    isplitl [Hc0]; · iexact Hc0
    iexact Hsems
  iexists _; isplitr
  swap; · iexact HO
  ipureintro; intro p _
  rcases p.2 with _ | q
  · exact .inr (.inl rfl)
  · exact .inr (.inr (congrArg some (Subsingleton.elim q 0)))

end Cert.Proof.Sc
-- ==== Proof.Region.lean ====
/-
  The TensorCore's pipelined call, with its value: two points of 8192 rows each; at a point the body reads the block of
  rows, the whole table of sums and counts and the two rows of biases and responses, and writes the whole block of the
  result. The region's proof data, the body's obligation, and the region as the launch composes it.
-/
module

public import proofs.«01_k».proof.Proof.Setup
public import Idealize.ShloMosaic.Lib.Pipeline.Value
public import Idealize.ShloMosaic.Lib.Pipeline.ValueKit.Geometry

@[expose] public section

noncomputable section

namespace Cert.Proof.Sc

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig (HIx 1) (Elt F) ℕ UU ℕ

/-! ## Loads and stores through a whole memref -/

section Whole

variable {s : Shape} {off : Fin s.rank → Nat}

omit [FloatOps F] in
/-- A load through the whole-shape rectangle reads what the memref holds. -/
theorem read_all {sp : Space} {e : EltTy} (M : Memref sig .tc sp s e) (c : Dev nD) (h : off = fun _ => 0)
    (inb : ∀ a, off a + s.size a ≤ s.size a) (g : Buf (Elt F) (M.view.loc (c : Thread nD τ))) :
    (M.access (Rect.unit off s.size inb)).read (Elt F) g = M.view.read (Elt F) g := by
  subst h; funext x
  show _root_.cast _ (g (M.view.emb ((Rect.whole s).emb x))) = _root_.cast _ (g (M.view.emb x))
  rw [Rect.emb_whole_apply]

omit [FloatOps F] in
/-- After an unmasked store through it the memref holds the payload. -/
theorem read_write_all {sp : Space} {e : EltTy} (M : Memref sig .tc sp s e) (c : Dev nD) (h : off = fun _ => 0)
    (inb : ∀ a, off a + s.size a ≤ s.size a) (f : Buf (Elt F) (M.view.loc (c : Thread nD τ))) (v : s.Idx → Elt F e) :
    M.view.read (Elt F) ((M.access (Rect.unit off s.size inb)).write (Elt F) f v Finset.univ) = v := by
  subst h; funext y
  have e : (Rect.whole s).emb y = y := Rect.emb_whole_apply _ _
  conv_lhs => rw [← e]
  exact View.read_slice_write_emb _ _ _ (Finset.mem_univ _)

end Whole

theorem off2 : (![0, 0] : Fin 2 → Nat) = fun _ => 0 := funext fun a => by fin_cases a <;> rfl

/-! ## The body -/

/-- The body over any whole buffers: the result's ends at the payload of what the others hold, which are as they were. -/
theorem tc_body (c : Dev nD) (i : grid1.Coords)
    (M1 : Memref sig .tc .vmem S8192x64 .f32) (h1 : M1.IsWhole) (M2 : Memref sig .tc .vmem S32x80 .f32) (h2 : M2.IsWhole)
    (M3 : Memref sig .tc .vmem S1x32 .f32) (h3 : M3.IsWhole) (M4 : Memref sig .tc .vmem S1x32 .f32) (h4 : M4.IsWhole)
    (M5 : Memref sig .tc .vmem S8192x32 .f32) (h5 : M5.IsWhole)
    (x : Vec F S8192x64 .f32) (ac : Vec F S32x80 .f32) (b r : Vec F S1x32 .f32) (d : Vec F S8192x32 .f32) (Q : PUnit.{1} → sProp 𝕄) :
    iprop(owns (c : Thread nD τ) M1 fullShare x ∗ owns (c : Thread nD τ) M2 fullShare ac ∗ owns (c : Thread nD τ) M3 fullShare b
        ∗ owns (c : Thread nD τ) M4 fullShare r ∗ owns (c : Thread nD τ) M5 fullShare d
        ∗ (iprop(owns (c : Thread nD τ) M1 fullShare x ∗ owns (c : Thread nD τ) M2 fullShare ac ∗ owns (c : Thread nD τ) M3 fullShare b
            ∗ owns (c : Thread nD τ) M4 fullShare r ∗ owns (c : Thread nD τ) M5 fullShare (k1_pay1 ac b r x)) -∗ Q ⟨⟩))
      ⊢ wp frame (wpE (defs₀ (F := F)) 𝒱₀ (c : Thread nD τ) none) Set.univ (cc1__tc_body i M1 h1 M2 h2 M3 h3 M4 h4 M5 h5) Q := by
  rw [cc1__tc_body_eq_skeleton]
  unfold owns cc1__tc_body_skel
  simp only [wp_bind, wp_pure]
  iintro ⟨⟨%f1, %e1, H1⟩, ⟨%f2, %e2, H2⟩, ⟨%f3, %e3, H3⟩, ⟨%f4, %e4, H4⟩, ⟨%f5, -, H5⟩, Hk⟩
  iapply (wp_load_rect 𝒱₀ (c : Thread nD τ) none Set.univ (m := M2) (r := Rect.unit (s := S32x80) ![0, 0] S32x80.size inb_S32x80_S32x80_0_0) (View.set_slice_subset _ _)) $$ H2
  iintro H2
  rw [wp_ret]; imodintro
  iapply (wp_load_rect 𝒱₀ (c : Thread nD τ) none Set.univ (m := M3) (r := Rect.unit (s := S1x32) ![0, 0] S1x32.size inb_S1x32_S1x32_0_0) (View.set_slice_subset _ _)) $$ H3
  iintro H3
  rw [wp_ret]; imodintro
  iapply (wp_load_rect 𝒱₀ (c : Thread nD τ) none Set.univ (m := M4) (r := Rect.unit (s := S1x32) ![0, 0] S1x32.size inb_S1x32_S1x32_0_0) (View.set_slice_subset _ _)) $$ H4
  iintro H4
  rw [wp_ret]; imodintro
  iapply (wp_load_rect 𝒱₀ (c : Thread nD τ) none Set.univ (m := M1) (r := Rect.unit (s := S8192x64) ![0, 0] S8192x64.size inb_S8192x64_S8192x64_0_0) (View.set_slice_subset _ _)) $$ H1
  iintro H1
  rw [wp_ret]; imodintro
  iapply (wp_load_rect 𝒱₀ (c : Thread nD τ) none Set.univ (m := M5) (r := Rect.unit (s := S8192x32) ![0, 0] S8192x32.size inb_S8192x32_S8192x32_0_0) (View.set_slice_subset _ _)) $$ H5
  iintro H5
  rw [wp_ret]; imodintro
  iapply (wp_store 𝒱₀ (c : Thread nD τ) none Set.univ (m := M5) (r := Rect.unit (s := S8192x32) ![0, 0] S8192x32.size inb_S8192x32_S8192x32_0_0) (Mk := Finset.univ) (View.set_slice_subset _ _)) $$ H5
  iintro H5
  rw [wp_ret]; imodintro
  imodintro
  iapply Hk
  isplitl [H1]; · iexists f1; isplitr; · ipureintro; exact e1
                  iexact H1
  isplitl [H2]; · iexists f2; isplitr; · ipureintro; exact e2
                  iexact H2
  isplitl [H3]; · iexists f3; isplitr; · ipureintro; exact e3
                  iexact H3
  isplitl [H4]; · iexists f4; isplitr; · ipureintro; exact e4
                  iexact H4
  iexists _; isplitr
  swap; · iexact H5
  ipureintro
  rw [read_write_all _ c off2, read_all M1 c off2, read_all M2 c off2, read_all M3 c off2, read_all M4 c off2, e1, e2, e3, e4]

/-! ## The proof data -/

variable (V : (c : Dev nD) → (b : Ref sig .tc) → Buf (Elt F) ((c : Thread nD τ).loc b))

/-- Point `t`'s block of window `w`'s array at the entry contents. -/
abbrev iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The rows staged at point `t`; -/
abbrev xB (c : Dev nD) (t : Fin cfg1.N) : Vec F S8192x64 .f32 := iblk V c 0 t
/-- the table of sums and counts; -/
abbrev acB (c : Dev nD) : Vec F S32x80 .f32 := iblk V c 1 t1_0
/-- the row of biases; -/
abbrev bB (c : Dev nD) : Vec F S1x32 .f32 := iblk V c 2 t1_0
/-- the row of responses. -/
abbrev rB (c : Dev nD) : Vec F S1x32 .f32 := iblk V c 3 t1_0

/-- The proof data on device `c`: the arrays at their entry contents; after the body each input's buffer as staged and the
    result's at the payload; nothing owed; every recorded wait at a level the one SparseCore call has passed. -/
def dats (_ : Fin 1) (c : Dev nD) : Dat τ (Elt F) (HIx 1) ℕ UU ℕ cfg1 c where
  A w := V c (Pipeline.arrRef spec1 w)
  after w t := match w with
    | ⟨0, _⟩ => xB V c t
    | ⟨1, _⟩ => acB V c
    | ⟨2, _⟩ => bB V c
    | ⟨3, _⟩ => rB V c
    | ⟨4, _⟩ => k1_pay1 (acB V c) (bB V c) (rB V c) (xB V c t)
  Φ _ := iprop(emp)
  q _ := fullShare
  owed _ := 0
  recorded _ := {p | (K (F := F)).lev ((c : Thread nD τ), p.1) p.2 ≤ 8}

/-- The proof data's arrays are the entry contents. -/
theorem A_eq (c : Dev nD) (w : Fin cfg1.W) : (dats V 0 c).A w = V c (Pipeline.arrRef spec1 w) := by dsimp only [dats]

theorem before_x (c : Dev nD) (t : Fin cfg1.N) (d) : (dats V 0 c).before 0 t d = xB V c t := by
  unfold Dat.before; rw [if_pos (fetch1_0 t)]; rfl
theorem before_ac (c : Dev nD) (t : Fin cfg1.N) (d) : (dats V 0 c).before 1 t d = acB V c := by
  rcases fin_N1 t with rfl | rfl
  · unfold Dat.before; rw [if_pos (by decide)]; rfl
  · unfold Dat.before; rw [if_neg (by decide), if_neg (by decide), if_neg (by decide)]; rfl
theorem before_b (c : Dev nD) (t : Fin cfg1.N) (d) : (dats V 0 c).before 2 t d = bB V c := by
  rcases fin_N1 t with rfl | rfl
  · unfold Dat.before; rw [if_pos (by decide)]; rfl
  · unfold Dat.before; rw [if_neg (by decide), if_neg (by decide), if_neg (by decide)]; rfl
theorem before_r (c : Dev nD) (t : Fin cfg1.N) (d) : (dats V 0 c).before 3 t d = rB V c := by
  rcases fin_N1 t with rfl | rfl
  · unfold Dat.before; rw [if_pos (by decide)]; rfl
  · unfold Dat.before; rw [if_neg (by decide), if_neg (by decide), if_neg (by decide)]; rfl

/-- The body's obligation at every point. -/
theorem body_obligation (c : Dev nD) : BodyObligation (dats V 0 c) (defs₀ (F := F)) 𝒱₀ (none : HIx 1) Set.univ := fun t => by
  rw [bigSep_W1, bigSep_W1]
  rw [show (dats V 0 c).Φ t.castSucc = iprop(emp) from rfl, show (dats V 0 c).Φ t.succ = iprop(emp) from rfl]
  iintro ⟨-, HO, ⟨%d0, H0⟩, ⟨%d1, H1⟩, ⟨%d2, H2⟩, ⟨%d3, H3⟩, ⟨%d4, H4⟩⟩
  ihave H0 := (Entails.of_eq (congrArg (owns (c : Thread nD τ) (st1_0 t) fullShare) (before_x V c t d0))) $$ H0
  ihave H1 := (Entails.of_eq (congrArg (owns (c : Thread nD τ) (st1_1 t) fullShare) (before_ac V c t d1))) $$ H1
  ihave H2 := (Entails.of_eq (congrArg (owns (c : Thread nD τ) (st1_2 t) fullShare) (before_b V c t d2))) $$ H2
  ihave H3 := (Entails.of_eq (congrArg (owns (c : Thread nD τ) (st1_3 t) fullShare) (before_r V c t d3))) $$ H3
  iapply (tc_body c (grid1.coords t) (st1_0 t) (hstage1_0 ((cfg1.slots t 0).cast nbuf1_0)) (st1_1 t) (hstage1_1 ((cfg1.slots t 1).cast nbuf1_1))
    (st1_2 t) (hstage1_2 ((cfg1.slots t 2).cast nbuf1_2)) (st1_3 t) (hstage1_3 ((cfg1.slots t 3).cast nbuf1_3)) (st1_4 t) (hstage1_4 ((cfg1.slots t 4).cast nbuf1_4))
    (xB V c t) (acB V c) (bB V c) (rB V c) ((dats V 0 c).before 4 t d4))
  isplitl [H0]; · iexact H0
  isplitl [H1]; · iexact H1
  isplitl [H2]; · iexact H2
  isplitl [H3]; · iexact H3
  isplitl [H4]; · iexact H4
  iintro ⟨H0, H1, H2, H3, H4⟩
  isplitr; · iempintro
  isplitl [HO]; · iexact HO
  isplitl [H0]; · iexact H0
  isplitl [H1]; · iexact H1
  isplitl [H2]; · iexact H2
  isplitl [H3]; · iexact H3
  iexact H4

/-! ## The region -/

/-- The prefetched tables' admissible contents: no table. -/
abbrev adm : (p : Fin 1) → (pcfgs (F := F) p).Adm := fun p => (cfgs p).toPCfg_adm

/-- The call uses no semaphore of its own. -/
abbrev osem : Fin 0 → SemLoc sig := fun k => k.elim0

/-- The layout's conditions on the call's own semaphores, of which there are none. -/
theorem ownSemFacts : Pipeline.OwnSemFacts spec1 osem := by decide

/-- The device owes nothing, and every wait it has recorded is at a level the call has passed. -/
abbrev Owe (c : Dev nD) : sProp 𝕄 :=
  iprop(∃ W, ⌜(K (F := F)).WBelow (SparseCore.T c) W 8⌝ ∗ owes (c : Thread nD τ) (0 : CellTallies nD τ sig (HIx 1)) W)

/-- The buffers the call does not touch, at their entry contents. -/
abbrev restAt (c : Dev nD) : sProp 𝕄 :=
  Pipeline.unscopedRest (Ix := HIx 1) (Name := ℕ) (U := UU) (Lvl := ℕ) spec1 c (V c)

set_option backward.isDefEq.respectTransparency.types false in
/-- The region: entered from every buffer of the device at `V`, left with the arrays at what the pipeline computes and the
    other buffers as they were. -/
def reg0 : Pipeline.RegionSeg (pcfgs (F := F)) adm (dats V) (none : HIx 1) defs₀ 𝒱₀ (K (F := F)).L (K (F := F)).lev 0 where
  win := launch1.win.to₀
  block_pos := launch1.block_pos
  stage_whole := launch1.stage_whole
  K := Fin 0
  osem := osem
  ho := ownSemFacts
  hbody c := (body_obligation V c).loose
  hwaits := Pipeline.hwaits_of_owed_zero _ _ _ _ (K (F := F)).L (K (F := F)).lev 0 fun _ _ => rfl
  pre c := iprop(unscopedBufs c (V c) ∗ Owe c)
  post c := iprop((dats V 0 c).arrays ((dats V 0 c).arrAt · cfg1.N) ∗ restAt V c ∗ Owe c)
  X _ := iprop(emp)
  Y _ := iprop(emp)
  Z c := restAt V c
  hentry c := by
    have hsplit := Pipeline.arrays_of_unscopedBufs (pcfgs (F := F)) adm (dats V) launch1.win launch1.arr_whole c
      ((dats V 0 c).share_full fun _ => rfl) (V c) (A_eq V c)
    iintro ⟨⟨Hub, HO⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hr
  hin c := by
    rw [show (dats V 0 c).Φ 0 = iprop(emp) from rfl]
    iintro -; iempintro
  hout c := by
    rw [show (Pipeline.ownSems0 (Ix := HIx 1) (Name := ℕ) (U := UU) (Lvl := ℕ) (Val := Elt F) (τ := τ) osem c : sProp 𝕄) = iprop(emp) from by
      unfold Pipeline.ownSems0; rw [show (Finset.univ : Finset (Fin 0)) = ∅ from rfl, BI.bigSep_empty]; rfl]
    iintro -
    isplitr; · iempintro
    isplitr; · iempintro
    iapply (Entails.of_eq (scopedRest1_eq c).symm); iempintro
  hexit c := by
    iintro ⟨Ha, HO, -, HZ⟩
    imodintro
    isplitl [Ha]; · iexact Ha
    isplitl [HZ]; · iexact HZ
    unfold Pipeline.Dat.owesAt Pipeline.owesWithin
    icases HO with ⟨%W, %hW, HO⟩; iexists W; isplitr
    · ipureintro; intro p hp
      rcases hW hp with h | ⟨w, s, h⟩
      · exact h
      · rw [h]; exact Nat.zero_le _
    iexact HO

end Cert.Proof.Sc

end
-- ==== Proof.Main.lean ====
/-
  @main on the TensorCore: the SparseCore's call, the five host operations on its result and on the biases and responses,
  and the pipelined call; then the launch of every thread. The one run of the program, over any float values, with the
  contents its result ends at.
-/
module

public import proofs.«01_k».proof.Proof.Body
public import proofs.«01_k».proof.Proof.Region

@[expose] public section

noncomputable section

namespace Cert.Proof.Sc

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]
variable (m : (ℓ : Loc nD τ sig) → Buf (Elt F) ℓ) (ρ : Dev nD → PrngReg)

local notation "𝕄" => MT nD τ sig (HIx 1) (Elt F) ℕ UU ℕ

local notation "sV" => (Memref.whole Cert.KernelIdeal.main_arg4_scv : Memref Cert.KernelIdeal.sig Kind.scVector Space.hbm Cert.KernelIdeal.S4096 EltTy.i32)
local notation "dV" => (Memref.whole Cert.KernelIdeal.main_arg5_scv : Memref Cert.KernelIdeal.sig Kind.scVector Space.hbm Cert.KernelIdeal.S4096 EltTy.i32)
local notation "wV" => (Memref.whole Cert.KernelIdeal.main_arg1_scv : Memref Cert.KernelIdeal.sig Kind.scVector Space.hbm Cert.KernelIdeal.S4096 EltTy.f32)
local notation "oV" => (Memref.whole Cert.KernelIdeal.main_v0_scv : Memref Cert.KernelIdeal.sig Kind.scVector Space.hbm Cert.KernelIdeal.S2560 EltTy.f32)

/-! ## The subcores' obligation -/

/-- The grid point of core `c`, subcore `s`. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_body (coordsV c s)
          sV (Memref.isWhole_whole _) dV (Memref.isWhole_whole _) wV (Memref.isWhole_whole _) oV (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _)
          (Memref.whole cc0_scratch4) (Memref.isWhole_whole _) cc0_scratch5 cc0_scratch6 cc0_scratch7 cc0_scoped0) ⟨⟩ c s := rfl

set_option maxRecDepth 65536 in
/-- Every subcore's task meets the launch's obligation. -/
theorem tileObl (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m d (coordsV ⟨_, hci.1⟩ ⟨_, hci.2⟩) facts hpre O W hO

/-! ## The launch element -/

/-- The handshakes' rounds, and the pipeline's. -/
def u₀ : UU := (initOf (K (F := F)).hsCells (K (F := F)).hsToks,
  (initOf (Pipeline.cells (nD := nD) (τ := τ) cfgs cellOf_inj) (Pipeline.launchToks (nD := nD) (τ := τ) cfgs cellOf_inj), 1))

/-- What @main is dealt of the pipeline's ghost state. -/
abbrev G (d : Dev nD) : sProp 𝕄 :=
  iprop(Pipeline.cellsGhost (Pipeline.pin (pcfgs (F := F)) adm) EP 0 d ∗ Pipeline.toksInit (Pipeline.pin (pcfgs (F := F)) adm) EP 0 d)

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_pair (initOf (K (F := F)).hsCells (K (F := F)).hsToks) _) $$ Hu
  icases H with ⟨HH, HR⟩
  ihave H := (own_pair_emb (embR : Emb (UP × Counters) 𝕄) _ _) $$ HR
  icases H with ⟨HP, -⟩
  ihave HP := (show (BI.own (((Emb.inl : Emb UP (UP × Counters)).trans (embR : Emb (UP × Counters) 𝕄))
      (initOf (Pipeline.cells (nD := nD) (τ := τ) cfgs cellOf_inj) (Pipeline.launchToks (nD := nD) (τ := τ) cfgs cellOf_inj))) : sProp 𝕄)
    ⊢ BI.own (EP (initOf (Pipeline.cells (Pipeline.pin (pcfgs (F := F)) adm) cellOf_inj) (Pipeline.launchToks (Pipeline.pin (pcfgs (F := F)) adm) cellOf_inj)))
    from Entails.of_eq rfl) $$ HP
  imod (Pipeline.fund_ghost (Pipeline.pin (pcfgs (F := F)) adm) EP cellOf_inj) $$ HP with ⟨Hg, Ht⟩
  imodintro
  isplitl [HH]; · iexact HH
  isplitl [Hg Ht]
  · rw [show (bigSep Finset.univ fun d : Dev nD => G (F := F) d)
        = iprop((bigSep Finset.univ fun d : Dev nD => bigSep Finset.univ fun p => Pipeline.cellsGhost (Pipeline.pin (pcfgs (F := F)) adm) EP p d)
          ∗ bigSep Finset.univ fun d : Dev nD => bigSep Finset.univ fun p => Pipeline.toksInit (Pipeline.pin (pcfgs (F := F)) adm) EP p d) from by
      rw [← bigSep_sep']
      exact bigSep_congr fun d _ => by rw [bigSep_univ_of_subsingleton (0 : Fin 1), bigSep_univ_of_subsingleton (0 : Fin 1)]]
    isplitl [Hg] <;> iassumption
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), show (bigSep Finset.univ fun _ : Thread nD τ => iprop(emp)) = (iprop(emp) : sProp 𝕄) from bigSep_emp_const _]
  iempintro

/-! ## The buffers through @main -/

/-- The device's buffers at launch; -/
abbrev V₀ (d : Dev nD) : Valuation τ sig (Elt F) := fun b => m (d, b)
/-- after the SparseCore's call; -/
def V₁ (d : Dev nD) : Valuation τ sig (Elt F) := Function.update (V₀ m d) (Proc.devRef .tc main_v0) (OUT m d)

/-- The five host operations between the two calls. -/
abbrev hostOps : List (HloOp τ sig (Elt F)) :=
  [StableHlo.reshape main_v0 main_v1 (rfl : (.f32 : EltTy) = .f32) shapeCasts_S2560_S32x80,
    StableHlo.unary main_arg2 main_v2 ((extractStridedSlice S32 ![0] · slices_S160_S32_0) : (⟨S160, .f32⟩ : BufTy).Contents (Elt F) → (⟨S32, .f32⟩ : BufTy).Contents (Elt F)),
    StableHlo.reshape main_v2 main_v3 (rfl : (.f32 : EltTy) = .f32) shapeCasts_S32_S1x32,
    StableHlo.unary main_arg3 main_v4 ((extractStridedSlice S32 ![0] · slices_S160_S32_0) : (⟨S160, .f32⟩ : BufTy).Contents (Elt F) → (⟨S32, .f32⟩ : BufTy).Contents (Elt F)),
    StableHlo.reshape main_v4 main_v5 (rfl : (.f32 : EltTy) = .f32) shapeCasts_S32_S1x32]

/-- The device's buffers when the pipelined call is entered. -/
def VR (d : Dev nD) (b : Ref sig .tc) : Buf (Elt F) ((d : Thread nD τ).loc b) := StableHlo.after hostOps (V₁ m d) b

/-- The TensorCore's unscoped references, as device buffers. -/
def ucRefs : Finset (DevRef τ sig) := (StableHlo.tcRefs τ sig).filter fun b => ¬ b.isScoped

/-- The unscoped buffers at a valuation are that set held at it. -/
theorem unscopedBufs_held (d : Dev nD) (W : Valuation τ sig (Elt F)) :
    (unscopedBufs d (fun b => W b) : sProp 𝕄) = StableHlo.held (d : Thread nD τ) ucRefs W := by
  unfold unscopedBufs StableHlo.held ucRefs StableHlo.tcRefs
  rw [Finset.filter_map, bigSep_map]
  rfl

theorem sub_ucRefs (op : HloOp τ sig (Elt F)) (h : op.bufs ⊆ StableHlo.tcRefs τ sig) : op.bufs ⊆ ucRefs := fun b hb =>
  Finset.mem_filter.mpr ⟨h hb, fun h' => Bool.false_ne_true ((op.no_scoped b hb).symm.trans h')⟩

theorem hostOps_sub : ∀ op ∈ (hostOps (F := F)), op.bufs ⊆ ucRefs := by
  intro op hop
  refine sub_ucRefs op ?_
  simp only [List.mem_cons, List.mem_nil_iff, or_false] at hop
  rcases hop with rfl | rfl | rfl | rfl | rfl
  · exact StableHlo.reshape_bufs_sub ..
  · exact StableHlo.unary_bufs_sub ..
  · exact StableHlo.reshape_bufs_sub ..
  · exact StableHlo.unary_bufs_sub ..
  · exact StableHlo.reshape_bufs_sub ..

/-- The unscoped buffers, listed with the four of the SparseCore's call first. -/
theorem unscopedBufs_eq (d : Dev nD) (W : (b : Ref sig .tc) → Buf (Elt F) ((d.tc : Thread nD τ).loc b)) :
    (unscopedBufs d W : sProp 𝕄)
      = iprop((sLoc d ↦{fullShare} W main_arg4) ∗ (dLoc d ↦{fullShare} W main_arg5) ∗ (wLoc d ↦{fullShare} W main_arg1) ∗ (oLoc d ↦{fullShare} W main_v0)
        ∗ bigSep ({main_arg0, main_arg2, main_arg3, main_v1, main_v2, main_v3, main_v4, main_v5, main_v6} : Finset (Ref sig .tc)) fun b => (d.tc : Thread nD τ).loc b ↦{fullShare} W b) := by
  unfold unscopedBufs
  rw [show (Finset.univ.filter fun b : Ref sig .tc => ¬ b.isScoped)
      = insert main_arg4 (insert main_arg5 (insert main_arg1 (insert main_v0 {main_arg0, main_arg2, main_arg3, main_v1, main_v2, main_v3, main_v4, main_v5, main_v6}))) by decide,
    SparseCore.bigSep_insert' (by decide), SparseCore.bigSep_insert' (by decide), SparseCore.bigSep_insert' (by decide), SparseCore.bigSep_insert' (by decide)]

theorem V₁_ne (d : Dev nD) (b : Ref sig .tc) (h : b ≠ main_v0) : V₁ m d (Proc.devRef .tc b) = m ((d.tc : Thread nD τ).loc b) :=
  Function.update_of_ne (StableHlo.devRef_ne_of_ne h) _ _
theorem V₁_v0 (d : Dev nD) : V₁ m d (Proc.devRef .tc main_v0) = OUT m d := Function.update_self _ _ _

theorem st0_eq (d : Dev nD) :
    (bigSep Finset.univ fun c : Fin ((K (F := F)).nCore 0) => (P m).st 0 d c)
      = iprop((sPts m d fullShare ∗ dPts m d fullShare ∗ wPts m d fullShare) ∗ oPts d (m (oLoc d))) :=
  bigSep_univ_of_subsingleton (0 : Fin 1)
theorem dn0_eq (d : Dev nD) :
    (bigSep Finset.univ fun c : Fin ((K (F := F)).nCore 0) => (P m).dn 0 d c)
      = iprop((sPts m d fullShare ∗ dPts m d fullShare ∗ wPts m d fullShare) ∗ oPts d (OUT m d)) :=
  bigSep_univ_of_subsingleton (0 : Fin 1)

/-- What @main ends holding: the pipelined call's arrays at what it computes, the other buffers. -/
abbrev FIN (d : Dev nD) : sProp 𝕄 :=
  iprop((dats (VR m) 0 d).arrays ((dats (VR m) 0 d).arrAt · cfg1.N) ∗ restAt (VR m) d)

theorem main_eq (d : Dev nD) : main (F := F) d
    = ((K (F := F)).run d 0 >>= fun _ => StableHlo.seq hostOps >>= fun _ =>
        SparseCore.liftProg (.op (.customCall (Pipeline.entry 0) ()) fun _ => .ret (⟨⟩ : PUnit)) >>= fun _ => pure (⟨⟩ : PUnit)) := by
  simp only [main, StableHlo.seq, bind_assoc, pure_bind]
  rfl

set_option backward.isDefEq.respectTransparency.types false in
/-- @main on device `d`'s TensorCore. -/
theorem hmain (κ : GSem nD τ sig → ℕ) (d : Dev nD) :
    iprop((K (F := F)).ctx EH (P m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq, main_eq, wp_bind]
  iintro ⟨#Hctx, Hst, ⟨Hb, ⟨Hs, Hd, Hw, Ho, Hrest⟩, Hts, -⟩, Hg, Ht⟩
  iapply ((K (F := F)).wp_run (D (F := F)) 𝒱 (EH := EH) (P := P m) κ d 0) $$ [Hst Hs Hd Hw Ho Hrest Hb Hts Hg Ht]
  isplitr; · iexact Hctx
  isplitl [Hst]; · iexact Hst
  isplitl [Hs Hd Hw Ho]
  · rw [st0_eq]
    isplitr [Ho]
    · isplitl [Hs]; · iexact Hs
      isplitl [Hd]; · iexact Hd
      iexact Hw
    iexact Ho
  iintro ⟨Hst, Hdn⟩
  ihave Hdn' := (Entails.of_eq (dn0_eq m d)) $$ Hdn
  icases Hdn' with ⟨⟨Hs, Hd, Hw⟩, Ho⟩
  have hcollect : iprop((sLoc d ↦{fullShare} m (sLoc d)) ∗ (dLoc d ↦{fullShare} m (dLoc d)) ∗ (wLoc d ↦{fullShare} m (wLoc d)) ∗ (oLoc d ↦{fullShare} OUT m d)
        ∗ bigSep ({main_arg0, main_arg2, main_arg3, main_v1, main_v2, main_v3, main_v4, main_v5, main_v6} : Finset (Ref sig .tc)) fun b => (d.tc : Thread nD τ).loc b ↦{fullShare} m ((d.tc : Thread nD τ).loc b))
      ⊢ (StableHlo.held (d : Thread nD τ) ucRefs (V₁ m d) : sProp 𝕄) := by
    rw [← unscopedBufs_held, unscopedBufs_eq, V₁_v0, V₁_ne m d main_arg4 (by decide), V₁_ne m d main_arg5 (by decide), V₁_ne m d main_arg1 (by decide)]
    refine sep_mono .rfl (sep_mono .rfl (sep_mono .rfl (sep_mono .rfl (Entails.of_eq (bigSep_congr fun b hb => ?_)))))
    rw [V₁_ne m d b (by rintro rfl; revert hb; decide)]
  ihave Hh := hcollect $$ [Hs Hd Hw Ho Hrest]
  · isplitl [Hs]; · iexact Hs
    isplitl [Hd]; · iexact Hd
    isplitl [Hw]; · iexact Hw
    isplitl [Ho]; · iexact Ho
    iexact Hrest
  iapply (StableHlo.wp_seq (defs := (K (F := F)).defs (D (F := F))) (𝒱 := 𝒱) (bd := none) (E := Set.univ) d ucRefs (fun _ => SparseCore.liftProg (.op (.customCall (Pipeline.entry 0) ()) fun _ => .ret (⟨⟩ : PUnit)) >>= fun _ => pure (⟨⟩ : PUnit)) hostOps hostOps_sub (by intro _ h; (repeat (cases h with | head => rfl | tail _ h => ?_)); exact nomatch h) (V₁ m d)) $$ [Hb Hh]
  · isplitl [Hb] <;> iassumption
  iintro ⟨Hb, Hh⟩
  ihave Hub := (Entails.of_eq (unscopedBufs_held (F := F) d (StableHlo.after hostOps (V₁ m d))).symm) $$ Hh
  rw [wp_bind]
  iapply ((K (F := F)).wp_liftProg (D (F := F)) 𝒱 (SparseCore.T d) Set.univ none)
  ihave #Hlev := ((K (F := F)).ctx_levAts κ) $$ Hctx
  unfold SparseCore.Cfg.tcSt
  icases Hst with ⟨⟨%W, %hW, HO⟩, Hst⟩
  iapply (Pipeline.RegionSeg.wp (pcfgs (F := F)) adm (dats (VR m)) none cellOf_inj EP defs₀ 𝒱₀ (K (F := F)).L (K (F := F)).lev (reg0 (VR m)) d none (fun _ h => nomatch h))
  isplitl [Hst Hts]
  · iintro ⟨Hb, Hp⟩
    ihave Hp := (show (reg0 (VR m)).post d ⊢ iprop((dats (VR m) 0 d).arrays ((dats (VR m) 0 d).arrAt · cfg1.N) ∗ restAt (VR m) d ∗ Owe d) from .rfl) $$ Hp
    icases Hp with ⟨Ha, Hr, %W', %hW', HO⟩
    rw [wp_ret, wp_pure]
    imodintro; imodintro
    isplitl [Hst HO]
    · isplitl [HO]
      · iexists W'; isplitr; · ipureintro; exact hW'
        rw [(K (F := F)).Otc_end d (le_refl 1)]
        iexact HO
      iexact Hst
    isplitl [Ha Hr]
    · isplitl [Ha]; · iexact Ha
      iexact Hr
    isplitl [Hb] <;> iassumption
  isplitl [Hb]; · iexact Hb
  isplitl [Hub HO]
  · iapply (show iprop(unscopedBufs d (VR m d) ∗ Owe d) ⊢ (reg0 (VR m)).pre d from .rfl)
    isplitl [Hub]; · iexact Hub
    iexists W; isplitr; · ipureintro; exact hW
    iapply (Entails.of_eq (congrArg (fun O => owes (SparseCore.T d) O W) ((K (F := F)).Otc_end d (n := ((0 : Fin 1) : ℕ) + 1) (le_refl 1)))); iexact HO
  isplitr; · iexact Hlev
  isplitl [Hg] <;> iassumption

/-- What a final state satisfies on device `d`: the arrays at what the pipelined call computes, the arguments as launched. -/
def fq (d : Dev nD) (s' : Phys nD τ sig (Elt F)) : Prop :=
  (∀ w : Fin cfg1.W, s'.mem.mem ((cfg1.win w).arr.view.loc (d : Thread nD τ)) = (dats (VR m) 0 d).arrAt w cfg1.N)
  ∧ s'.mem.mem ((d : Thread nD τ).loc main_arg1) = VR m d main_arg1 ∧ s'.mem.mem ((d : Thread nD τ).loc main_arg2) = VR m d main_arg2
  ∧ s'.mem.mem ((d : Thread nD τ).loc main_arg3) = VR m d main_arg3 ∧ s'.mem.mem ((d : Thread nD τ).loc main_arg4) = VR m d main_arg4
  ∧ s'.mem.mem ((d : Thread nD τ).loc main_arg5) = VR m d main_arg5

/-- @main's end read off the final state. -/
theorem hfin (d : Dev nD) (s' : Phys nD τ sig (Elt F)) : iprop(FIN m d ∗ SI s') ⊢ (⌜fq m d s'⌝ : sProp 𝕄) := by
  unfold FIN restAt; rw [unscopedRest1_eq]
  iintro ⟨⟨Ha, H1, H2, H3, H4, H5, -⟩, HSI⟩
  icombine HSI H1 gives %h1
  icombine HSI H2 gives %h2
  icombine HSI H3 gives %h3
  icombine HSI H4 gives %h4
  icombine HSI H5 gives %h5
  ihave Hr := (Pipeline.arrays_read (pcfgs (F := F)) adm (dats (VR m)) launch1.arr_whole d ((dats (VR m) 0 d).share_full fun _ => rfl) _ s') $$ [Ha HSI]
  · isplitl [Ha] <;> iassumption
  icases Hr with ⟨%ha, -⟩
  ipureintro
  exact ⟨ha, Buf.eq_of_forall_mem_univ h1, Buf.eq_of_forall_mem_univ h2, Buf.eq_of_forall_mem_univ h3, Buf.eq_of_forall_mem_univ h4, Buf.eq_of_forall_mem_univ h5⟩

/-- A buffer the host operations do not write, and the SparseCore's call does not, is as launched at the pipelined call. -/
theorem VR_arg (d : Dev nD) (b : Ref sig .tc) (hb : b ≠ main_v0 ∧ b ≠ main_v1 ∧ b ≠ main_v2 ∧ b ≠ main_v3 ∧ b ≠ main_v4 ∧ b ≠ main_v5) :
    VR m d b = m ((d : Thread nD τ).loc b) := by
  obtain ⟨h0, h1, h2, h3, h4, h5⟩ := hb
  refine (StableHlo.after_of_forall_not_mem (b := Proc.devRef .tc b) hostOps (V₁ m d) ?_).trans (V₁_ne m d b h0)
  intro op hop
  simp only [List.mem_cons, List.mem_nil_iff, or_false] at hop
  rcases hop with rfl | rfl | rfl | rfl | rfl <;>
    simp only [StableHlo.unary_writes, StableHlo.reshape_writes, Finset.mem_singleton] <;>
    exact StableHlo.devRef_ne_of_ne ‹_›

/-- What @main's result ends at, as the pipeline computes it. -/
def RES (d : Dev nD) : Buf (Elt F) ((d : Thread nD τ).loc main_v6) := (dats (VR m) 0 d).arrAt 4 cfg1.N

/-- The run's post: the result at `RES`, the arguments as launched, every counter at zero. -/
def QC : PUnit × MemSt nD τ sig (Elt F) → Prop := fun r =>
  (∀ c : Dev nD, r.2.mem ((c : Thread nD τ).loc main_v6) = RES m c
    ∧ r.2.mem ((c : Thread nD τ).loc main_arg0) = m ((c : Thread nD τ).loc main_arg0) ∧ r.2.mem ((c : Thread nD τ).loc main_arg1) = m ((c : Thread nD τ).loc main_arg1)
    ∧ r.2.mem ((c : Thread nD τ).loc main_arg2) = m ((c : Thread nD τ).loc main_arg2) ∧ r.2.mem ((c : Thread nD τ).loc main_arg3) = m ((c : Thread nD τ).loc main_arg3)
    ∧ r.2.mem ((c : Thread nD τ).loc main_arg4) = m ((c : Thread nD τ).loc main_arg4) ∧ r.2.mem ((c : Thread nD τ).loc main_arg5) = m ((c : Thread nD τ).loc main_arg5))
  ∧ r.2.sem = fun _ => 0

/-- The program's run, over any float values: from any memory with zero counters whose sources read as naturals below
    `2 ^ 31`, every fair execution of all its threads terminates, with the result at `RES`, the arguments as launched and every counter at zero. -/
theorem run_main (hpre : PreOK m) : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hpre)
    (fun q _ => match q with | 0 => SparseCore.Cfg.VecSplit.of_plain (vecSplit m))
    m ρ main (fun d => G d) (FIN m) (u₀ (F := F)) (sep_elim_left.trans (hu₀ m)) (hmain m ρ) (fq m) (hfin m) (QC m)
    (fun s' h hz => ⟨fun c => ⟨(h c).1 4, ((h c).1 0).trans (((dats (VR m) 0 c).arrAt_in 0 rfl _).trans (VR_arg m c main_arg0 (by decide))),
      (h c).2.1.trans (VR_arg m c main_arg1 (by decide)), (h c).2.2.1.trans (VR_arg m c main_arg2 (by decide)),
      (h c).2.2.2.1.trans (VR_arg m c main_arg3 (by decide)), (h c).2.2.2.2.1.trans (VR_arg m c main_arg4 (by decide)),
      (h c).2.2.2.2.2.trans (VR_arg m c main_arg5 (by decide))⟩, hz⟩)

end Cert.Proof.Sc

end
-- ==== Proof.Frames.lean ====
/-
  The two preconditions read element by element, and the claims that the programs run, leave their arguments unchanged and
  end with every counter at zero: the kernel's from its one run, the reference's from its operations' run.
-/
module

public import proofs.«01_k».proof.Defs
public import proofs.«01_k».proof.Proof.Gen.Kernel
public import proofs.«01_k».proof.Proof.Gen.ReferenceIdeal
public import proofs.«01_k».proof.Proof.Gen.ReferenceIdeal.Run
public import proofs.«01_k».proof.Proof.Main
public import Idealize.ShloMosaic.Lib.ReduceAll
public import Idealize.ShloMosaic.Lib.IdealHost
public import Idealize.ShloMosaic.Lib.Quiescent

@[expose] public section

noncomputable section

namespace Cert.Proof

open Idealize.ShloMosaic Idealize.SL.Sem

/-- The side conditions of the range precondition's operations. -/
theorem facts_in_range : Cert.Pre_in_range.Facts where
  bcast_S_S4096 := by decide
  reducesTo_S4096_S_d0 := by decide
  h_S_ := by decide

/-- The side conditions of the operations of the precondition that asks finite values too. -/
theorem facts_finite_in_range : Cert.Pre_finite_in_range.Facts where
  bcast_S_S16384x64 := by decide
  reducesTo_S16384x64_S_d0_1 := by decide
  h_S_ := by decide
  bcast_S_S4096 := by decide
  reducesTo_S4096_S_d0 := by decide

attribute [local instance] facts_in_range facts_finite_in_range

/-- A truth value's bit is 1 exactly when it is true. -/
theorem ofBool_eq_one (b : Bool) : BitVec.ofBool b = 1#1 ↔ b = true := by cases b <;> decide

/-- One element of the range tests: the four signed comparisons bound the word as a natural number. -/
theorem range_of_tests (x y : BitVec 32)
    (h : IntOp.andi (IntOp.andi (IntOp.andi (IntOp.cmpi .sge x 0#32) (IntOp.cmpi .slt x 224#32)) (IntOp.cmpi .sge y 0#32))
      (IntOp.cmpi .slt y 160#32) = 1#1) : x.toNat < 224 ∧ y.toNat < 160 := by
  simp only [IntOp.andi_eq_one, IntOp.cmpi, ofBool_eq_one, BitVec.sle_eq_decide, BitVec.slt_eq_decide, decide_eq_true_eq,
    BitVec.toInt_eq_toNat_cond, BitVec.toNat_ofNat, Nat.reducePow, Nat.reduceMod] at h
  omega

/-- The range precondition, read at an edge. -/
theorem in_range_apply {F : FTy → Type} [FloatOps F] (a0 : FVec F Cert.Pre_in_range.S16384x64 .f32) (a1 : FVec F Cert.Pre_in_range.S4096 .f32)
    (a2 a3 : FVec F Cert.Pre_in_range.S160 .f32) (a4 a5 : IVec Cert.Pre_in_range.S4096 32)
    (h : Cert.Pre_in_range.fn a0 a1 a2 a3 a4 a5 = fun _ => 1#1) (i : Cert.Pre_in_range.S4096.Idx) :
    (a4 i).toNat < 224 ∧ (a5 i).toNat < 160 :=
  haveI : Subsingleton Cert.Pre_in_range.S_.Idx := ⟨fun a b => funext fun k => k.elim0⟩
  range_of_tests _ _ (Host.reduce_andi_all _ _ _ _ (fun k => k.elim0) (congrFun h (fun k => k.elim0)) i)

/-- The finiteness precondition, read at an edge and at an element of the inputs. -/
theorem finite_in_range_apply {F : FTy → Type} [FloatOps F] (a0 : FVec F Cert.Pre_finite_in_range.S16384x64 .f32)
    (a1 : FVec F Cert.Pre_finite_in_range.S4096 .f32) (a2 a3 : FVec F Cert.Pre_finite_in_range.S160 .f32)
    (a4 a5 : IVec Cert.Pre_finite_in_range.S4096 32)
    (h : Cert.Pre_finite_in_range.fn a0 a1 a2 a3 a4 a5 = fun _ => 1#1) :
    (∀ i, (a4 i).toNat < 224 ∧ (a5 i).toNat < 160)
      ∧ (∀ i, FloatOps.cmpf .olt (FloatOps.hostAbsf (a0 i)) (FloatOps.ofBits (F := F) .f32 0x7F800000#32) = 1#1)
      ∧ ∀ i, FloatOps.cmpf .olt (FloatOps.hostAbsf (a1 i)) (FloatOps.ofBits (F := F) .f32 0x7F800000#32) = 1#1 := by
  haveI : Subsingleton Cert.Pre_finite_in_range.S_.Idx := ⟨fun a b => funext fun k => k.elim0⟩
  have h0 := congrFun h (fun k => k.elim0)
  obtain ⟨h1, h2⟩ := IntOp.andi_eq_one.1 h0
  obtain ⟨h3, h4⟩ := IntOp.andi_eq_one.1 h1
  exact ⟨fun i => range_of_tests _ _ (Host.reduce_andi_all _ _ _ _ _ h2 i),
    fun i => Host.reduce_andi_all _ _ _ _ _ h3 i, fun i => Host.reduce_andi_all _ _ _ _ _ h4 i⟩

/-- The two programs' label tables agree, label by label. -/
theorem defs₀_eq : (Cert.Kernel.defs₀ (F := Bits)) = Cert.KernelIdeal.defs₀ (F := Bits) := by
  funext p ℓ a
  match p, ℓ, a with
  | .scVector c s, 0, _ => rfl
  | .tc, 1, (t, s) => rfl
  | .tc, 0, _ => rfl
  | .scScalar c, 0, _ => rfl
  | .scScalar c, 1, _ => rfl
  | .scVector c s, 1, _ => rfl

/-- So do the tables with the calls' own labels. -/
theorem defs_eq : (Cert.Kernel.defs (F := Bits)) = Cert.KernelIdeal.defs (F := Bits) :=
  congrArg (fun d => Cert.KernelIdeal.sc.defs (Pipeline.defs Cert.KernelIdeal.pcfgs d)) defs₀_eq

/-- The kernel at machine floats runs, leaves its arguments unchanged and ends with every counter at zero: the ideal
    program's run, read at machine floats. -/
theorem frame_kernel : Cert.quiescent_Kernel := fun m ρ hpre => by
  rw [defs_eq]
  exact (θ_run Cert.KernelIdeal.defs _ _).mono (fun _ h => ⟨fun c => (h.1 c).2, h.2⟩)
    (Sc.run_main (F := Bits) m ρ fun d j => lt_trans (in_range_apply _ _ _ _ _ _ (hpre d) j).1 (by decide))

/-- The kernel at exact floats runs, leaves its arguments unchanged and ends with every counter at zero. -/
theorem frame_ideal : Cert.quiescent_KernelIdeal := fun m ρ hpre =>
  (θ_run Cert.KernelIdeal.defs _ _).mono (fun _ h => ⟨fun c => (h.1 c).2, h.2⟩)
    (Sc.run_main (F := Ideal) m ρ fun d j => lt_trans (in_range_apply _ _ _ _ _ _ (hpre d) j).1 (by decide))

/-- The same under the precondition that also asks finite values. -/
theorem frame_ideal_finite : Cert.quiescent_KernelIdeal_pre_finite_in_range := fun m ρ hpre =>
  (θ_run Cert.KernelIdeal.defs _ _).mono (fun _ h => ⟨fun c => (h.1 c).2, h.2⟩)
    (Sc.run_main (F := Ideal) m ρ fun d j => lt_trans ((finite_in_range_apply _ _ _ _ _ _ (hpre d)).1 j).1 (by decide))

/-- The reference runs and leaves its arguments unchanged; it has no counter. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same under the precondition that also asks finite values. -/
theorem frame_reference_finite : Cert.quiescent_ReferenceIdeal_pre_finite_in_range := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.Sums.lean ====
/-
  What the vector subcores compute, at exact floats: word (n, i) of the launch's result is the sum of the weights of the
  edges from input i into node n, and node n's sixteen counts add up to the number of edges into it.
-/
module

public import proofs.«01_k».proof.Proof.Values
public import Idealize.ShloMosaic.Lib.IdealHost
public import Idealize.ShloMosaic.Lib.ValueIdxCore

@[expose] public section

noncomputable section

namespace Cert.Proof.Val

open Idealize.ShloMosaic
open Cert.KernelIdeal
open scoped BigOperators

/-- Edge `k` of the 4096. -/
def edge (k : ℕ) : S4096.Idx := Shape.ofLane (d := ![4096]) ⟨k % 4096, Nat.mod_lt _ (by decide)⟩

/-- Edge `e`'s weight where it goes from input `i` into node `n`, zero elsewhere. -/
def hitW (s d : IVec S4096 32) (w : FVec Ideal S4096 .f32) (n i : ℕ) (e : S4096.Idx) : EReal :=
  if (d e).toNat = n ∧ (s e).toNat = i then w e else 0

/-- One where edge `e` goes into node `n`, zero elsewhere. -/
def hitC (d : IVec S4096 32) (n : ℕ) (e : S4096.Idx) : EReal := if (d e).toNat = n then 1 else 0

/-- The zero word is zero. -/
theorem z0_eq : (z0 : Ideal .f32) = (0 : EReal) := Ideal.ofBits_zero_f32

/-- A word of one lane's table after `n` chunks: the weights of the lane's edges so far that go from the word's input into
    the word's node. -/
theorem acc_eq (b : BitVec 32) (s d : IVec S4096 32) (w : FVec Ideal S4096 .f32) (hb : b.toNat < 32)
    (hs : ∀ e, (s e).toNat < 224) (hd : ∀ e, (d e).toNat < 160) (l p i : ℕ) (hl : l < 16) (hp : p < 2) (hi : i < 64)
    (j : S2048.Idx) (hj : (j 0).val = 128 * l + 64 * p + i) :
    ∀ n, (stAt b s d w n).acc j = ∑ c ∈ Finset.range n, hitW s d w (b.toNat + p) i (edge (16 * c + l))
  | 0 => by rw [Finset.sum_range_zero]; exact z0_eq
  | n + 1 => by
    rw [Finset.sum_range_succ, ← acc_eq b s d w hb hs hd l p i hl hp hi j hj n]
    show scat b (chunk s n) (chunk d n) (chunk w n) (stAt b s d w n).acc j = _
    have hlane : (laneOf j 0).val = l := by show (j 0).val / 128 = l; omega
    have es : chunk s n (laneOf j) = s (edge (16 * n + l)) := by unfold chunk edge; simp only [hlane]
    have ed : chunk d n (laneOf j) = d (edge (16 * n + l)) := by unfold chunk edge; simp only [hlane]
    have ew : chunk w n (laneOf j) = w (edge (16 * n + l)) := by unfold chunk edge; simp only [hlane]
    have hm := maskV_iff b (chunk s n) (chunk d n) (laneOf j) (by rw [es]; exact lt_trans (hs _) (by decide))
    have hx := idxV_toNat b (chunk s n) (chunk d n) (laneOf j) (by rw [es]; exact lt_trans (hs _) (by decide))
    have h1 := hs (edge (16 * n + l))
    have h2 := hd (edge (16 * n + l))
    rw [es, ed, BitVec.toNat_sub] at hm
    rw [es, ed, BitVec.toNat_sub, hlane] at hx
    unfold scat hitW
    by_cases hk : maskV b (chunk s n) (chunk d n) (laneOf j) = 1
    · rw [if_pos hk] at hx
      have hm' := hm.1 hk
      have hv : valV b (chunk s n) (chunk d n) (chunk w n) (laneOf j) = w (edge (16 * n + l)) := by
        rw [← ew]; exact if_pos hk
      by_cases hh : (d (edge (16 * n + l))).toNat = b.toNat + p ∧ (s (edge (16 * n + l))).toNat = i
      · rw [if_pos hh, if_pos ⟨hk, by rw [hx, hj]; omega⟩, hv]; rfl
      · rw [if_neg hh, if_neg, add_zero]
        rintro ⟨-, h⟩
        rw [hx, hj] at h
        exact hh ⟨by omega, by omega⟩
    · rw [if_neg (fun h => hk h.1), if_neg, add_zero]
      rintro ⟨h, h'⟩
      exact hk (hm.2 ⟨by omega, by omega⟩)

/-- A lane's count of the edges into a node, after `n` chunks of its steps. -/
theorem cnt_eq (b : BitVec 32) (d : IVec S4096 32) (hb : b.toNat < 64) (x : S16.Idx) (c : ℕ → FVec Ideal S16 .f32)
    (h0 : c 0 x = (0 : EReal)) (hc : ∀ n, c (n + 1) = cntV b (chunk d n) (c n)) :
    ∀ n, c n x = ∑ k ∈ Finset.range n, hitC d b.toNat (edge (16 * k + (x 0).val))
  | 0 => by rw [Finset.sum_range_zero]; exact h0
  | n + 1 => by
    rw [Finset.sum_range_succ, ← cnt_eq b d hb x c h0 hc n, hc n]
    show c n x + (if IntOp.cmpi .eq (d (edge (16 * n + (x 0).val))) b = 1#1 then Ideal.ofBits .f32 0x3F800000#32
      else Ideal.ofBits .f32 0x00000000#32) = _
    rw [Ideal.ofBits_one_f32, Ideal.ofBits_zero_f32]
    have e : IntOp.cmpi .eq (d (edge (16 * n + (x 0).val))) b = 1#1 ↔ (d (edge (16 * n + (x 0).val))).toNat = b.toNat := by
      rw [← BitVec.toNat_inj.symm]
      exact (ofBool_one _).trans beq_iff_eq
    exact congrArg (c n x + ·) (if_congr e rfl rfl)

/-- The first node's counts. -/
theorem c0_eq (b : BitVec 32) (s d : IVec S4096 32) (w : FVec Ideal S4096 .f32) (hb : b.toNat < 32) (x : S16.Idx) (n : ℕ) :
    (stAt b s d w n).c0 x = ∑ k ∈ Finset.range n, hitC d b.toNat (edge (16 * k + (x 0).val)) :=
  cnt_eq b d (by omega) x (fun n => (stAt b s d w n).c0) z0_eq (fun _ => rfl) n

/-- The second node's counts. -/
theorem c1_eq (b : BitVec 32) (s d : IVec S4096 32) (w : FVec Ideal S4096 .f32) (hb : b.toNat < 32) (x : S16.Idx) (n : ℕ) :
    (stAt b s d w n).c1 x = ∑ k ∈ Finset.range n, hitC d (b.toNat + 1) (edge (16 * k + (x 0).val)) := by
  have e : (b + 1#32).toNat = b.toNat + 1 := by rw [BitVec.toNat_add, BitVec.toNat_ofNat]; omega
  rw [← e]
  exact cnt_eq (b + 1#32) d (by omega) x (fun n => (stAt b s d w n).c1) z0_eq (fun _ => rfl) n

/-- Slabs added in lane order, as one sum. -/
theorem sumV_eq (A : FVec Ideal S2048 .f32) (o : ℕ) (x : S16.Idx) :
    ∀ l, sumV A o l x = ∑ k ∈ Finset.range (l + 1), (slab A (128 * k + o) x : EReal)
  | 0 => by rw [Finset.sum_range_one, Nat.mul_zero, Nat.zero_add]; rfl
  | l + 1 => by
    rw [Finset.sum_range_succ, ← sumV_eq A o x l]; rfl

/-- Sixteen lanes' sums over `n` chunks are the sum over the first `16 * n` edges. -/
theorem lanes_sum (f : ℕ → EReal) : ∀ n, ∑ l ∈ Finset.range 16, ∑ c ∈ Finset.range n, f (16 * c + l) = ∑ k ∈ Finset.range (16 * n), f k
  | 0 => by simp
  | n + 1 => by
    simp only [Finset.sum_range_succ _ n]
    rw [Finset.sum_add_distrib, lanes_sum f n, Nat.mul_succ, Finset.sum_range_add]

/-- The sum over the 4096 numbered edges is the sum over the edges. -/
theorem edges_sum (f : S4096.Idx → EReal) : ∑ k ∈ Finset.range 4096, f (edge k) = ∑ e, f e := by
  rw [Finset.sum_range]
  refine Fintype.sum_equiv (⟨fun k => Shape.ofLane (d := ![4096]) k, fun e => e 0, fun _ => rfl, fun e => ?_⟩ : Fin 4096 ≃ S4096.Idx) _ _ fun k => ?_
  · funext a; match a with | 0 => rfl
  · refine congrArg f ?_
    show edge k.val = Shape.ofLane (d := ![4096]) k
    unfold edge
    exact congrArg _ (Fin.ext (Nat.mod_eq_of_lt k.isLt))

/-- The weights of the edges from input `i` into node `n`, added up. -/
def aSum (s d : IVec S4096 32) (w : FVec Ideal S4096 .f32) (n i : ℕ) : EReal := ∑ e, hitW s d w n i e

/-- The number of edges into node `n`. -/
def cSum (d : IVec S4096 32) (n : ℕ) : EReal := ∑ e, hitC d n e

/-- A row's word in a node's part of the sums. -/
theorem row_sum (b : BitVec 32) (s d : IVec S4096 32) (w : FVec Ideal S4096 .f32) (hb : b.toNat < 32)
    (hs : ∀ e, (s e).toNat < 224) (hd : ∀ e, (d e).toNat < 160) (p i : ℕ) (hp : p < 2) (hi : i < 64) (j : S160.Idx)
    (hj : (j 0).val = 80 * p + i) : rowOf (stAt b s d w 256) j = aSum s d w (b.toNat + p) i := by
  unfold rowOf piece
  have e1 : (j 0).val / 16 = 5 * p + i / 16 := by omega
  have e2 : (j 0).val % 16 = i % 16 := by omega
  rw [if_neg (by omega)]
  rw [sumV_eq, aSum, ← edges_sum, show 4096 = 16 * 256 from rfl, ← lanes_sum]
  refine Finset.sum_congr rfl fun l hl => ?_
  have hl' : l < 16 := Finset.mem_range.1 hl
  refine acc_eq b s d w hb hs hd l p i hl' hp hi _ ?_ 256
  show (128 * l + (64 * ((j 0).val / 16 / 5) + 16 * ((j 0).val / 16 % 5)) + (j 0).val % 16) % 2048 = _
  omega

/-- A row's sixteen counts of a node, added up. -/
theorem row_cnt (b : BitVec 32) (s d : IVec S4096 32) (w : FVec Ideal S4096 .f32) (hb : b.toNat < 32) (p : ℕ) (hp : p < 2)
    (j : ℕ → S160.Idx) (hj : ∀ q < 16, (j q 0).val = 80 * p + 64 + q) :
    ∑ q ∈ Finset.range 16, (rowOf (stAt b s d w 256) (j q) : EReal) = cSum d (b.toNat + p) := by
  rw [cSum, ← edges_sum, show 4096 = 16 * 256 from rfl, ← lanes_sum]
  refine Finset.sum_congr rfl fun q hq => ?_
  have hq' : q < 16 := Finset.mem_range.1 hq
  have h := hj q hq'
  unfold rowOf piece
  rw [if_pos (by omega)]
  have e2 : (j q 0).val % 16 = q := by omega
  rcases (by omega : p = 0 ∨ p = 1) with rfl | rfl
  · rw [if_pos (by omega), c0_eq b s d w hb]
    refine Finset.sum_congr rfl fun k _ => ?_
    show hitC d b.toNat (edge (16 * k + (j q 0).val % 16)) = _
    rw [e2, Nat.add_zero]
  · rw [if_neg (by omega), c1_eq b s d w hb]
    refine Finset.sum_congr rfl fun k _ => ?_
    show hitC d (b.toNat + 1) (edge (16 * k + (j q 0).val % 16)) = _
    rw [e2]

/-- A tile's first node. -/
theorem first_toNat (t : ℕ) (ht : t < 16) : (2#32 * BitVec.ofNat 32 t).toNat = 2 * t := by
  rw [BitVec.toNat_mul, BitVec.toNat_ofNat, BitVec.toNat_ofNat]; omega

/-- The launch's result at a node's word of sums. -/
theorem outV_sum (s d : IVec S4096 32) (w : FVec Ideal S4096 .f32) (hs : ∀ e, (s e).toNat < 224) (hd : ∀ e, (d e).toNat < 160)
    (n i : ℕ) (hn : n < 32) (hi : i < 64) (j : S2560.Idx) (hj : (j 0).val = 80 * n + i) : outV s d w j = aSum s d w n i := by
  unfold outV
  have hf := first_toNat ((j 0).val / 160) (by omega)
  rw [row_sum _ s d w (by omega) hs hd (n % 2) i (by omega) hi _ (by
    show (j 0).val % 160 = _
    omega), hf]
  congr 1
  omega

/-- The launch's result over a node's sixteen words of counts. -/
theorem outV_cnt (s d : IVec S4096 32) (w : FVec Ideal S4096 .f32) (n : ℕ) (hn : n < 32) (j : ℕ → S2560.Idx)
    (hj : ∀ q < 16, (j q 0).val = 80 * n + 64 + q) : ∑ q ∈ Finset.range 16, (outV s d w (j q) : EReal) = cSum d n := by
  have hf := first_toNat (n / 2) (by omega)
  have h := row_cnt (2#32 * BitVec.ofNat 32 (n / 2)) s d w (by omega) (n % 2) (by omega)
    (fun q => Shape.ofLane (d := ![160]) ⟨(j q 0).val % 160, Nat.mod_lt _ (by decide)⟩) (fun q hq => by
      have := hj q hq
      show (j q 0).val % 160 = _
      omega)
  rw [hf, show 2 * (n / 2) + n % 2 = n by omega] at h
  rw [← h]
  refine Finset.sum_congr rfl fun q hq => ?_
  have hq' := Finset.mem_range.1 hq
  have := hj q hq'
  unfold outV
  rw [show (j q 0).val / 160 = n / 2 by omega]

end Cert.Proof.Val

end
-- ==== Proof.TcValue.lean ====
/-
  The kernel's result at exact floats, read at row r and node n: the logistic of the node's bias plus its response times
  the row's product with the node's sums of weights, times one at a node with an edge and zero at one without.
-/
module

public import proofs.«01_k».proof.Proof.Sums
public import proofs.«01_k».proof.Proof.Main
public import Idealize.ShloMosaic.Lib.ValueLayout
public import Idealize.ShloMosaic.Lib.MatmulPlain
public import Idealize.ShloMosaic.Lib.Pipeline.Value
public import Idealize.ShloMosaic.Lib.Pipeline.ValueKit

@[expose] public section

noncomputable section

namespace Cert.Proof.Sc

open Idealize.ShloMosaic hiding ix1 ix2
open Idealize.ShloMosaic.ValueIdx Idealize.ShloMosaic.TcCoe
open Idealize.ShloMosaic.Pipeline (Dat)
open Cert.KernelIdeal Cert.KernelIdeal.Gen
open scoped BigOperators

/-- The mask's float: one where the sum is above zero, zero elsewhere. -/
theorem mask_val (c : EReal) :
    (FloatOps.sitofp (F := Ideal) .f32 ((BitVec.ofBool (decide ((0 : EReal) < c))).setWidth 32) : EReal) = if 0 < c then 1 else 0 := by
  by_cases h : 0 < c
  · rw [if_pos h, decide_eq_true h]
    show ((((BitVec.ofBool true).setWidth 32).toInt : ℝ) : EReal) = 1
    rw [show ((BitVec.ofBool true).setWidth 32).toInt = 1 from by decide]; simp
  · rw [if_neg h, decide_eq_false h]
    show ((((BitVec.ofBool false).setWidth 32).toInt : ℝ) : EReal) = 0
    rw [show ((BitVec.ofBool false).setWidth 32).toInt = 0 from by decide]; simp

/-- What the TensorCore's body computes of its blocks, read at a row and a node. -/
theorem pay_at (ac : FVec Ideal S32x80 .f32) (b rs : FVec Ideal S1x32 .f32) (x : FVec Ideal S8192x64 .f32) (r : Fin 8192) (n : Fin 32) :
    (k1_pay1 (F := Ideal) ac b rs x (ix2 r n) : EReal)
      = (Ideal.logistic (b (ix2 0 n) + rs (ix2 0 n) * ∑ k : Fin 64, x (ix2 r k) * ac (ix2 n ⟨k.val, by omega⟩))
        * (if 0 < ∑ q : Fin 16, ac (ix2 n ⟨64 + q.val, by omega⟩) then 1 else 0) : EReal) := by
  unfold k1_pay1
  simp only [shapeCast_self]
  rw [mulf_apply, broadcastTo_1b_ab_apply]
  refine congrArg₂ (HMul.hMul (α := EReal) (β := EReal) (γ := EReal)) ?_ ?_
  · show Ideal.logistic _ = _
    refine congrArg Ideal.logistic ?_
    rw [addf_apply, mulf_apply, broadcastTo_1b_ab_apply, broadcastTo_1b_ab_apply]
    refine congrArg (fun z : EReal => (b (ix2 0 n) + rs (ix2 0 n) * z : EReal)) ?_
    refine (Ideal.matmul_plain_apply (M := 8192) (K := 64) (N := 32) none _ _ _ r n).trans ?_
    rw [constant_apply, Ideal.ofBits_zero_f32]
    refine (zero_add (M := EReal) _).trans (Finset.sum_congr rfl fun k _ => ?_)
    rw [transpose_ix2_apply, slice2_axis1_apply 0 ac _ n k ⟨k.val, by omega⟩ (by simp)]
  · rw [sitofp_apply, extui_apply, cmpf_apply, shapeCast_a_1a_apply]
    refine Eq.trans ?_ (mask_val _)
    refine congrArg₂ (fun z c : EReal => (FloatOps.sitofp (F := Ideal) .f32 ((BitVec.ofBool (decide (z < c))).setWidth 32) : EReal))
      Ideal.ofBits_zero_f32 ?_
    refine (Ideal.multiReduction_add_single (s := S32x16) (a := 1) _ _ _ _ _ _).trans (Finset.sum_congr rfl fun q _ => ?_)
    refine extractStridedSlice_apply _ _ _ _ _ fun a => ?_
    match a with
    | ⟨0, _⟩ => exact (Nat.zero_add _).symm
    | ⟨1, _⟩ => rfl

variable (m : (ℓ : Loc nD τ sig) → Buf (Elt Ideal) ℓ) (d : Dev nD)

/-- The table of sums and counts as the TensorCore reads it: the SparseCore's words, eighty to a node. -/
theorem VR_v1 (n : Fin 32) (k : Fin 80) (j : S2560.Idx) (hj : (j 0).val = 80 * n.val + k.val) :
    (VR m d main_v1 : FVec Ideal S32x80 .f32) (ix2 n k) = OUT m d j := by
  have e : (VR m d main_v1 : FVec Ideal S32x80 .f32) = shapeCast S32x80 (OUT m d) shapeCasts_S2560_S32x80 := by
    unfold VR
    simp only [hostOps]
    after_results_simp
    rw [V₁_v0]
    rfl
  rw [e]
  refine shapeCast_apply _ _ _ _ ?_
  refine (Shape.rowMajor_val_one (d := ![2560]) j).trans (Eq.trans ?_ (Shape.rowMajor_val_two (d := ![32, 80]) (ix2 n k)).symm)
  show (j 0).val = n.val * 80 + k.val
  omega

/-- The biases of the nodes of the result. -/
theorem VR_v3 (n : Fin 32) (n' : Fin 160) (hn : n'.val = n.val) :
    (VR m d main_v3 : FVec Ideal S1x32 .f32) (ix2 0 n) = (m ((d : Thread nD τ).loc main_arg2) : FVec Ideal S160 .f32) (ix1 n') := by
  have e : (VR m d main_v3 : FVec Ideal S1x32 .f32)
      = shapeCast S1x32 (extractStridedSlice S32 ![0] (m ((d : Thread nD τ).loc main_arg2) : FVec Ideal S160 .f32) slices_S160_S32_0) shapeCasts_S32_S1x32 := by
    unfold VR
    simp only [hostOps]
    after_results_simp
    rw [V₁_ne m d main_arg2 (by decide)]
    rfl
  rw [e, shapeCast_a_1a_apply]
  refine extractStridedSlice_apply _ _ _ _ _ fun a => ?_
  match a with
  | ⟨0, _⟩ => show n'.val = 0 + n.val; omega

/-- The responses of the nodes of the result. -/
theorem VR_v5 (n : Fin 32) (n' : Fin 160) (hn : n'.val = n.val) :
    (VR m d main_v5 : FVec Ideal S1x32 .f32) (ix2 0 n) = (m ((d : Thread nD τ).loc main_arg3) : FVec Ideal S160 .f32) (ix1 n') := by
  have e : (VR m d main_v5 : FVec Ideal S1x32 .f32)
      = shapeCast S1x32 (extractStridedSlice S32 ![0] (m ((d : Thread nD τ).loc main_arg3) : FVec Ideal S160 .f32) slices_S160_S32_0) shapeCasts_S32_S1x32 := by
    unfold VR
    simp only [hostOps]
    after_results_simp
    rw [V₁_ne m d main_arg3 (by decide)]
    rfl
  rw [e, shapeCast_a_1a_apply]
  refine extractStridedSlice_apply _ _ _ _ _ fun a => ?_
  match a with
  | ⟨0, _⟩ => show n'.val = 0 + n.val; omega

/-- Every window's block at a point: the rows by the point, the rest whole. -/
theorem idx1 : ∀ t : Fin cfg1.N, win1_0.index t = ![(grid1.coords t 0).val, 0] ∧ win1_1.index t = ![0, 0] ∧ win1_2.index t = ![0, 0]
    ∧ win1_3.index t = ![0, 0] ∧ win1_4.index t = ![(grid1.coords t 0).val, 0] :=
  (by decide +kernel : ∀ t : Fin grid1.N, _)

/-- The staged rows at a point, read at an element: the inputs' row the point's block places it at. -/
theorem xB_at (t : Fin cfg1.N) (r : Fin 8192) (k : Fin 64) (R : Fin 16384) (hR : R.val = (grid1.coords t 0).val * 8192 + r.val) :
    xB (VR m) d t (ix2 r k) = (m ((d : Thread nD τ).loc main_arg0) : FVec Ideal S16384x64 .f32) (ix2 R k) := by
  refine Eq.trans ?_ (congrFun (VR_arg m d main_arg0 (by decide)) (ix2 R k))
  show VR m d main_arg0 (((cfg1.win 0).blk t).view.emb (ix2 r k)) = VR m d main_arg0 (ix2 R k)
  refine congrArg (VR m d main_arg0) (funext fun a => Fin.ext ?_)
  match a with
  | ⟨0, _⟩ =>
    show win1_0.index t 0 * 8192 + 1 * r.val = R.val
    rw [(idx1 t).1]; show (grid1.coords t 0).val * 8192 + 1 * r.val = R.val; omega
  | ⟨1, _⟩ =>
    show win1_0.index t 1 * 64 + 1 * k.val = k.val
    rw [(idx1 t).1]; show 0 * 64 + 1 * k.val = k.val; omega

/-- The staged table is the table. -/
theorem acB_at (n : Fin 32) (k : Fin 80) : acB (VR m) d (ix2 n k) = (VR m d main_v1 : FVec Ideal S32x80 .f32) (ix2 n k) := by
  show VR m d main_v1 (((cfg1.win 1).blk t1_0).view.emb (ix2 n k)) = _
  refine congrArg (VR m d main_v1) (funext fun a => Fin.ext ?_)
  match a with
  | ⟨0, _⟩ =>
    show win1_1.index t1_0 0 * 32 + 1 * n.val = n.val
    rw [(idx1 t1_0).2.1]; show 0 * 32 + 1 * n.val = n.val; omega
  | ⟨1, _⟩ =>
    show win1_1.index t1_0 1 * 80 + 1 * k.val = k.val
    rw [(idx1 t1_0).2.1]; show 0 * 80 + 1 * k.val = k.val; omega

/-- The staged row of biases is the row. -/
theorem bB_at (n : Fin 32) : bB (VR m) d (ix2 0 n) = (VR m d main_v3 : FVec Ideal S1x32 .f32) (ix2 0 n) := by
  show VR m d main_v3 (((cfg1.win 2).blk t1_0).view.emb (ix2 0 n)) = _
  refine congrArg (VR m d main_v3) (funext fun a => Fin.ext ?_)
  match a with
  | ⟨0, _⟩ =>
    show win1_2.index t1_0 0 * 1 + 1 * 0 = 0
    rw [(idx1 t1_0).2.2.1]; rfl
  | ⟨1, _⟩ =>
    show win1_2.index t1_0 1 * 32 + 1 * n.val = n.val
    rw [(idx1 t1_0).2.2.1]; show 0 * 32 + 1 * n.val = n.val; omega

/-- The staged row of responses is the row. -/
theorem rB_at (n : Fin 32) : rB (VR m) d (ix2 0 n) = (VR m d main_v5 : FVec Ideal S1x32 .f32) (ix2 0 n) := by
  show VR m d main_v5 (((cfg1.win 3).blk t1_0).view.emb (ix2 0 n)) = _
  refine congrArg (VR m d main_v5) (funext fun a => Fin.ext ?_)
  match a with
  | ⟨0, _⟩ =>
    show win1_3.index t1_0 0 * 1 + 1 * 0 = 0
    rw [(idx1 t1_0).2.2.2.1]; rfl
  | ⟨1, _⟩ =>
    show win1_3.index t1_0 1 * 32 + 1 * n.val = n.val
    rw [(idx1 t1_0).2.2.2.1]; show 0 * 32 + 1 * n.val = n.val; omega

/-- The kernel's result of its arguments: at row `r` and node `n` the logistic of the node's bias plus its response times
    the row's product with the node's sums of weights, times one where the node has an edge and zero where it has none. -/
def outK (x : FVec Ideal S16384x64 .f32) (w : FVec Ideal S4096 .f32) (b rs : FVec Ideal S160 .f32) (s d : IVec S4096 32) :
    FVec Ideal S16384x32 .f32 := fun i =>
  (Ideal.logistic (b (ix1 ⟨(i 1).val, lt_trans (i 1).isLt (by decide)⟩) + rs (ix1 ⟨(i 1).val, lt_trans (i 1).isLt (by decide)⟩)
      * ∑ k : Fin 64, x (ix2 (i 0) k) * Val.aSum s d w (i 1).val k.val)
    * (if 0 < Val.cSum d (i 1).val then 1 else 0) : EReal)

/-- The result's array after the run: the kernel's result of its arguments, the indices in range. -/
theorem RES_eq (hs : ∀ e, ((m ((d : Thread nD τ).loc main_arg4) : IVec S4096 32) e).toNat < 224)
    (hd : ∀ e, ((m ((d : Thread nD τ).loc main_arg5) : IVec S4096 32) e).toNat < 160) :
    RES m d = outK (m ((d : Thread nD τ).loc main_arg0)) (m ((d : Thread nD τ).loc main_arg1)) (m ((d : Thread nD τ).loc main_arg2))
      (m ((d : Thread nD τ).loc main_arg3)) (m ((d : Thread nD τ).loc main_arg4)) (m ((d : Thread nD τ).loc main_arg5)) := by
  unfold RES
  refine (dats (VR m) 0 d).arrAt_eq_of_covers 4 _ (by decide +kernel) fun t hf y => ?_
  obtain ⟨r, n, rfl⟩ : ∃ (r : Fin 8192) (n : Fin 32), y = ix2 r n := ⟨y 0, y 1, ValueIdx.eq_ix2 y⟩
  have e0 : ((((cfg1.win 4).blk t).view.emb (ix2 r n)) 0).val = (grid1.coords t 0).val * 8192 + r.val := by
    show win1_4.index t 0 * 8192 + 1 * r.val = _
    rw [(idx1 t).2.2.2.2]; show (grid1.coords t 0).val * 8192 + 1 * r.val = _; omega
  have e1 : ((((cfg1.win 4).blk t).view.emb (ix2 r n)) 1).val = n.val := by
    show win1_4.index t 1 * 32 + 1 * n.val = _
    rw [(idx1 t).2.2.2.2]; show 0 * 32 + 1 * n.val = _; omega
  have hn := n.isLt
  generalize ((cfg1.win 4).blk t).view.emb (ix2 r n) = j at e0 e1 ⊢
  show k1_pay1 (acB (VR m) d) (bB (VR m) d) (rB (VR m) d) (xB (VR m) d t) (ix2 r n) = outK _ _ _ _ _ _ j
  rw [pay_at]
  have e1' : (j 1).val = n.val := e1
  have h160 : (j 1).val < 160 := by omega
  have hc : (∑ q : Fin 16, acB (VR m) d (ix2 n ⟨64 + q.val, by omega⟩) : EReal) = Val.cSum (m ((d : Thread nD τ).loc main_arg5)) (j 1).val := by
    rw [e1', ← Val.outV_cnt (m ((d : Thread nD τ).loc main_arg4)) (m ((d : Thread nD τ).loc main_arg5)) (m ((d : Thread nD τ).loc main_arg1)) n.val hn
      (fun q => ix1 ⟨(80 * n.val + 64 + q) % 2560, Nat.mod_lt _ (by decide)⟩) (fun q hq => Nat.mod_eq_of_lt (by omega)), Finset.sum_range]
    refine Finset.sum_congr rfl fun q _ => ?_
    rw [acB_at]
    exact VR_v1 m d n _ _ ((Nat.mod_eq_of_lt (by omega)).trans (by show 80 * n.val + 64 + q.val = 80 * n.val + (64 + q.val); omega))
  have ha : ∀ k : Fin 64, (acB (VR m) d (ix2 n ⟨k.val, by omega⟩) : EReal)
      = Val.aSum (m ((d : Thread nD τ).loc main_arg4)) (m ((d : Thread nD τ).loc main_arg5)) (m ((d : Thread nD τ).loc main_arg1)) (j 1).val k.val := fun k => by
    rw [e1', acB_at, VR_v1 m d n _ (ix1 ⟨80 * n.val + k.val, by omega⟩) rfl]
    exact Val.outV_sum _ _ _ hs hd n.val k.val hn k.isLt _ rfl
  have hx : ∀ k : Fin 64, xB (VR m) d t (ix2 r k) = (m ((d : Thread nD τ).loc main_arg0) : FVec Ideal S16384x64 .f32) (ix2 (j 0) k) :=
    fun k => xB_at m d t r k (j 0) e0
  rw [hc, bB_at, rB_at, VR_v3 m d n ⟨(j 1).val, h160⟩ e1', VR_v5 m d n ⟨(j 1).val, h160⟩ e1']
  unfold outK
  refine congrArg (fun z : EReal => (Ideal.logistic (_ + _ * z) * _ : EReal)) (Finset.sum_congr rfl fun k _ => ?_)
  rw [ha, hx]

end Cert.Proof.Sc

end
-- ==== Proof.Ref.lean ====
/-
  The reference's two sums by destination and its columns taken by source, read at an element: which updates land there,
  and which column is taken.
-/
module

public import proofs.«01_k».proof.Proof.Sums
public import proofs.«01_k».proof.Proof.Gen.ReferenceIdeal
public import Idealize.ShloMosaic.Lib.ValueLayout
public import Idealize.ShloMosaic.Lib.ReduceAll
public import Idealize.ShloMosaic.Lib.Pipeline.Value

@[expose] public section

noncomputable section

namespace Cert.Proof.Ref

open Idealize.ShloMosaic Idealize.ShloMosaic.ValueIdx
open Cert.ReferenceIdeal Cert.ReferenceIdeal.Gen
open scoped BigOperators

attribute [local instance] Cert.ReferenceIdeal.Gen.facts

/-- The sum of rows by destination: update `(e, r)` lands at `(n, r')` exactly when edge `e`'s index is `n` and `r` is `r'`. -/
theorem lands_row (idx : IVec S4096x1 32) (e : Fin 4096) (r : Fin 16384) (n : Fin 160) (r' : Fin 16384) :
    scatter_S160x16384_S4096x1_S4096x16384_1_0_0_1.resultIdx? (ix2 e r) idx = some (ix2 n r')
      ↔ (idx (ix2 e 0)).toInt = n.val ∧ r = r' := by
  have hs0 : scatter_S160x16384_S4096x1_S4096x16384_1_0_0_1.start (ix2 e r) idx 0 = (idx (ix2 e 0)).toInt := by
    unfold ScatterDims.start
    rw [dif_pos (by decide)]
    refine congrArg (fun z => (idx z).toInt) (funext fun b => Fin.ext ?_)
    match b with
    | ⟨0, _⟩ => rfl
    | ⟨1, _⟩ => rfl
  have hs1 : scatter_S160x16384_S4096x1_S4096x16384_1_0_0_1.start (ix2 e r) idx 1 = 0 := by
    unfold ScatterDims.start
    rw [dif_neg (by decide)]
  have hw0 : scatter_S160x16384_S4096x1_S4096x16384_1_0_0_1.window (ix2 e r) 0 = 0 := by
    unfold ScatterDims.window
    rw [dif_neg (by decide)]
  have hw1 : scatter_S160x16384_S4096x1_S4096x16384_1_0_0_1.window (ix2 e r) 1 = r.val := by
    unfold ScatterDims.window
    rw [dif_pos (by decide)]
    rfl
  have hn := n.isLt
  have hr := r.isLt
  unfold ScatterDims.resultIdx?
  split
  · next h =>
    have h0 := h 0
    rw [hs0, hw0] at h0
    rw [Option.some.injEq]
    constructor
    · intro q
      have q0 := congrArg Fin.val (congrFun q 0)
      have q1 := congrArg Fin.val (congrFun q 1)
      simp only [hs0, hw0, hs1, hw1, ix2] at q0 q1
      exact ⟨by omega, Fin.ext (by omega)⟩
    · rintro ⟨q, rfl⟩
      funext a
      refine Fin.ext ?_
      match a with
      | ⟨0, _⟩ =>
        show (_ + ((scatter_S160x16384_S4096x1_S4096x16384_1_0_0_1.window (ix2 e r) 0 : ℕ) : ℤ)).toNat = n.val
        rw [hw0]
        show (scatter_S160x16384_S4096x1_S4096x16384_1_0_0_1.start (ix2 e r) idx 0 + _).toNat = n.val
        rw [hs0]; omega
      | ⟨1, _⟩ =>
        show (scatter_S160x16384_S4096x1_S4096x16384_1_0_0_1.start (ix2 e r) idx 1
          + ((scatter_S160x16384_S4096x1_S4096x16384_1_0_0_1.window (ix2 e r) 1 : ℕ) : ℤ)).toNat = r.val
        rw [hw1, hs1]; omega
  · next h =>
    refine ⟨fun q => (nomatch q), fun q => absurd (fun a => ?_) h⟩
    match a with
    | ⟨0, _⟩ =>
      show 0 ≤ scatter_S160x16384_S4096x1_S4096x16384_1_0_0_1.start (ix2 e r) idx 0
          + ((scatter_S160x16384_S4096x1_S4096x16384_1_0_0_1.window (ix2 e r) 0 : ℕ) : ℤ)
        ∧ scatter_S160x16384_S4096x1_S4096x16384_1_0_0_1.start (ix2 e r) idx 0
          + ((scatter_S160x16384_S4096x1_S4096x16384_1_0_0_1.window (ix2 e r) 0 : ℕ) : ℤ) < ((160 : ℕ) : ℤ)
      rw [hs0, hw0]; omega
    | ⟨1, _⟩ =>
      show 0 ≤ scatter_S160x16384_S4096x1_S4096x16384_1_0_0_1.start (ix2 e r) idx 1
          + ((scatter_S160x16384_S4096x1_S4096x16384_1_0_0_1.window (ix2 e r) 1 : ℕ) : ℤ)
        ∧ scatter_S160x16384_S4096x1_S4096x16384_1_0_0_1.start (ix2 e r) idx 1
          + ((scatter_S160x16384_S4096x1_S4096x16384_1_0_0_1.window (ix2 e r) 1 : ℕ) : ℤ) < ((16384 : ℕ) : ℤ)
      rw [hs1, hw1]; omega

/-- The count by destination: edge `e`'s one lands at node `n` exactly when its index is `n`. -/
theorem lands_cnt (idx : IVec S4096x1 32) (e : Fin 4096) (n : Fin 160) :
    scatter_S160_S4096x1_S4096_n_0_0_1.resultIdx? (ix1 e) idx = some (ix1 n) ↔ (idx (ix2 e 0)).toInt = n.val := by
  have hs0 : scatter_S160_S4096x1_S4096_n_0_0_1.start (ix1 e) idx 0 = (idx (ix2 e 0)).toInt := by
    unfold ScatterDims.start
    rw [dif_pos (by decide)]
    refine congrArg (fun z => (idx z).toInt) (funext fun b => Fin.ext ?_)
    match b with
    | ⟨0, _⟩ => rfl
    | ⟨1, _⟩ => rfl
  have hw0 : scatter_S160_S4096x1_S4096_n_0_0_1.window (ix1 e) 0 = 0 := by
    unfold ScatterDims.window
    rw [dif_neg (by decide)]
  have hn := n.isLt
  unfold ScatterDims.resultIdx?
  split
  · next h =>
    have h0 := h 0
    rw [hs0, hw0] at h0
    rw [Option.some.injEq]
    constructor
    · intro q
      have q0 := congrArg Fin.val (congrFun q 0)
      simp only [hs0, hw0, ix1] at q0
      omega
    · intro q
      funext a
      refine Fin.ext ?_
      match a with
      | ⟨0, _⟩ =>
        show (scatter_S160_S4096x1_S4096_n_0_0_1.start (ix1 e) idx 0
          + ((scatter_S160_S4096x1_S4096_n_0_0_1.window (ix1 e) 0 : ℕ) : ℤ)).toNat = n.val
        rw [hs0, hw0]; omega
  · next h =>
    refine ⟨fun q => (nomatch q), fun q => absurd (fun a => ?_) h⟩
    match a with
    | ⟨0, _⟩ =>
      show 0 ≤ scatter_S160_S4096x1_S4096_n_0_0_1.start (ix1 e) idx 0
          + ((scatter_S160_S4096x1_S4096_n_0_0_1.window (ix1 e) 0 : ℕ) : ℤ)
        ∧ scatter_S160_S4096x1_S4096_n_0_0_1.start (ix1 e) idx 0
          + ((scatter_S160_S4096x1_S4096_n_0_0_1.window (ix1 e) 0 : ℕ) : ℤ) < ((160 : ℕ) : ℤ)
      rw [hs0, hw0]; omega

/-- The sum of rows by destination, read at an element. -/
theorem sum_at (x : FVec Ideal S160x16384 .f32) (idx : IVec S4096x1 32) (upd : FVec Ideal S4096x16384 .f32) (n : Fin 160) (r : Fin 16384) :
    Host.scatterAdd scatter_S160x16384_S4096x1_S4096x16384_1_0_0_1 x idx upd (ix2 n r)
      = (x (ix2 n r) + ∑ e : Fin 4096, if (idx (ix2 e 0)).toInt = n.val then upd (ix2 e r) else 0 : EReal) := by
  show (x (ix2 n r) + ∑ j ∈ Finset.univ.filter (fun j => scatter_S160x16384_S4096x1_S4096x16384_1_0_0_1.resultIdx? j idx = some (ix2 n r)), upd j : EReal) = _
  refine congrArg (x (ix2 n r) + ·) ?_
  rw [Finset.sum_filter, sum_idx2]
  refine Finset.sum_congr rfl fun e _ => ?_
  simp only [lands_row]
  by_cases h : (idx (ix2 e 0)).toInt = n.val
  · simp only [h, true_and, if_true]
    exact Finset.sum_ite_eq' Finset.univ r _ |>.trans (if_pos (Finset.mem_univ r))
  · simp only [h, false_and, if_false, Finset.sum_const_zero]

/-- The count by destination, read at a node. -/
theorem cnt_at (x : FVec Ideal S160 .f32) (idx : IVec S4096x1 32) (upd : FVec Ideal S4096 .f32) (n : Fin 160) :
    Host.scatterAdd scatter_S160_S4096x1_S4096_n_0_0_1 x idx upd (ix1 n)
      = (x (ix1 n) + ∑ e : Fin 4096, if (idx (ix2 e 0)).toInt = n.val then upd (ix1 e) else 0 : EReal) := by
  show (x (ix1 n) + ∑ j ∈ Finset.univ.filter (fun j => scatter_S160_S4096x1_S4096_n_0_0_1.resultIdx? j idx = some (ix1 n)), upd j : EReal) = _
  refine congrArg (x (ix1 n) + ·) ?_
  rw [Finset.sum_filter]
  refine Fintype.sum_equiv (⟨fun j => j 0, ix1, fun j => (eq_ix1 j).symm, fun _ => rfl⟩ : S4096.Idx ≃ Fin 4096) _ _ fun j => ?_
  obtain ⟨e, rfl⟩ : ∃ e : Fin 4096, j = ix1 e := ⟨j 0, eq_ix1 j⟩
  exact if_congr (lands_cnt idx e n) rfl rfl

/-- A column taken by each edge's index, read at an element: the index read signed and held within the columns. -/
theorem take_at {α : Type} (x : S16384x224.Idx → α) (idx : IVec S4096x1 32) (r : Fin 16384) (e : Fin 4096) :
    Host.gather gather_S16384x224_S4096x1_S16384x4096_0_1_n_n_1_1_163841 x idx (ix2 r e)
      = x (ix2 r ⟨min (idx (ix2 e 0)).toInt.toNat 223, by omega⟩) := by
  unfold Host.gather
  refine congrArg x (funext fun a => Fin.ext ?_)
  show gather_S16384x224_S4096x1_S16384x4096_0_1_n_n_1_1_163841.start (ix2 r e) idx a
    + gather_S16384x224_S4096x1_S16384x4096_0_1_n_n_1_1_163841.batchCoord (ix2 r e) a
    + gather_S16384x224_S4096x1_S16384x4096_0_1_n_n_1_1_163841.offCoord (ix2 r e) a = _
  rw [GatherDims.batchCoord_eq_zero _ _ _ (by exact List.not_mem_nil), Nat.add_zero]
  match a with
  | ⟨0, _⟩ =>
    show gather_S16384x224_S4096x1_S16384x4096_0_1_n_n_1_1_163841.start (ix2 r e) idx 0
      + gather_S16384x224_S4096x1_S16384x4096_0_1_n_n_1_1_163841.offCoord (ix2 r e) 0 = r.val
    unfold GatherDims.start GatherDims.offCoord
    rw [dif_neg (by decide), dif_pos (by decide), Nat.zero_add]
    rfl
  | ⟨1, _⟩ =>
    show gather_S16384x224_S4096x1_S16384x4096_0_1_n_n_1_1_163841.start (ix2 r e) idx 1
      + gather_S16384x224_S4096x1_S16384x4096_0_1_n_n_1_1_163841.offCoord (ix2 r e) 1 = _
    rw [GatherDims.offCoord_eq_zero _ _ _ (by decide), Nat.add_zero]
    unfold GatherDims.start
    rw [dif_pos (by decide)]
    refine congrArg (fun z => min (idx z).toInt.toNat 223) (funext fun b => Fin.ext ?_)
    match b with
    | ⟨0, _⟩ => rfl
    | ⟨1, _⟩ => rfl

end Cert.Proof.Ref

end
-- ==== Proof.RefValue.lean ====
/-
  The reference's result at exact floats, read at row r and node n: zero at a node without edges, and elsewhere the
  logistic of the node's bias plus its response times the sum over its edges of weight times the source's value.
-/
module

public import proofs.«01_k».proof.Proof.Ref
public import proofs.«01_k».proof.Proof.Gen.ReferenceIdeal.Run

@[expose] public section

noncomputable section

namespace Cert.Proof.Ref

open Idealize.ShloMosaic Idealize.ShloMosaic.ValueIdx
open Cert.ReferenceIdeal Cert.ReferenceIdeal.Gen
open scoped BigOperators

attribute [local instance] Cert.ReferenceIdeal.Gen.facts

/-- The value a row of the inputs gives source `k`: the input below 64, zero of the nodes after it. -/
def srcVal (x : FVec Ideal S16384x64 .f32) (r : Fin 16384) (k : ℕ) : EReal :=
  if h : k < 64 then x (ix2 r ⟨k, h⟩) else 0

/-- The sum over node `n`'s edges of weight times the source's value. -/
def agg (x : FVec Ideal S16384x64 .f32) (w : FVec Ideal S4096 .f32) (s d : IVec S4096 32) (r : Fin 16384) (n : ℕ) : EReal :=
  ∑ e : S4096.Idx, if (d e).toNat = n then w e * srcVal x r (s e).toNat else 0

/-- A source index, one below zero counted from the end. -/
def idxT (s : IVec S4096 32) : IVec S4096x1 32 :=
  broadcastInDim S4096x1 ![0] bcast_S4096_S4096x1_0 (select (cmpi .slt s (broadcastInDim S4096 ![] bcast_S_S4096 (constantI S_ 32 0#32)))
    (addi s (broadcastInDim S4096 ![] bcast_S_S4096 (constantI S_ 32 224#32))) s)

/-- The inputs with the nodes' zeros after them. -/
def valsT (x : FVec Ideal S16384x64 .f32) : FVec Ideal S16384x224 .f32 :=
  concatenate S16384x224 1 [⟨S16384x64, x⟩, ⟨S16384x160, (broadcastInDim S16384x160 ![] bcast_S_S16384x160 (constant S_ .f32 0x00000000#32))⟩]
    concatenates_S16384x64_S16384x160_S16384x224_d1

/-- Whether an edge's source index is in range. -/
def okT (s : IVec S4096 32) : IVec S4096 1 :=
  Host.reduce IntOp.andi (andi (cmpi .sge (idxT s) (broadcastInDim S4096x1 ![] bcast_S_S4096x1 (constantI S_ 32 0#32)))
    (cmpi .sle (idxT s) (broadcastInDim S4096x1 ![0, 1] bcast_S1x1_S4096x1_0_1 (broadcastInDim S1x1 ![1] bcast_S1_S1x1_1 (constantI S1 32 223#32)))))
    (constantI S_ 1 1#1) reducesTo_S4096x1_S4096_d1 h_S_

/-- What each edge takes of each row. -/
def takeT (x : FVec Ideal S16384x64 .f32) (s : IVec S4096 32) : FVec Ideal S16384x4096 .f32 :=
  select (broadcastInDim S16384x4096 ![1] bcast_S4096_S16384x4096_1 (okT s))
    (Host.gather gather_S16384x224_S4096x1_S16384x4096_0_1_n_n_1_1_163841 (valsT x) (idxT s))
    (broadcastInDim S16384x4096 ![] bcast_S_S16384x4096 (constant S_ .f32 0x7FC00000#32))

/-- The sums of the edges' messages by destination. -/
def aggT (x : FVec Ideal S16384x64 .f32) (w : FVec Ideal S4096 .f32) (s d : IVec S4096 32) : FVec Ideal S160x16384 .f32 :=
  Host.scatterAdd scatter_S160x16384_S4096x1_S4096x16384_1_0_0_1 (broadcastInDim S160x16384 ![] bcast_S_S160x16384 (constant S_ .f32 0x00000000#32))
    (broadcastInDim S4096x1 ![0] bcast_S4096_S4096x1_0 d)
    (transpose S4096x16384 [1, 0] (mulf (broadcastInDim S16384x4096 ![0, 1] bcast_S1x4096_S16384x4096_0_1 (broadcastInDim S1x4096 ![1] bcast_S4096_S1x4096_1 w)) (takeT x s))
      transposes_S16384x4096_S4096x16384_1_0)

/-- The number of edges into each node. -/
def cntT (d : IVec S4096 32) : FVec Ideal S160 .f32 :=
  Host.scatterAdd scatter_S160_S4096x1_S4096_n_0_0_1 (broadcastInDim S160 ![] bcast_S_S160 (constant S_ .f32 0x00000000#32))
    (broadcastInDim S4096x1 ![0] bcast_S4096_S4096x1_0 d) (broadcastInDim S4096 ![] bcast_S_S4096 (constant S_ .f32 0x3F800000#32))

/-- A row by node array broadcast from a vector over the nodes. -/
def rowsOf (b : FVec Ideal S160 .f32) : FVec Ideal S160x16384 .f32 :=
  broadcastInDim S160x16384 ![0, 1] bcast_S160x1_S160x16384_0_1 (broadcastInDim S160x1 ![0] bcast_S160_S160x1_0 b)

/-- The reference's result of its arguments. -/
def outT (x : FVec Ideal S16384x64 .f32) (w : FVec Ideal S4096 .f32) (b rs : FVec Ideal S160 .f32) (s d : IVec S4096 32) :
    FVec Ideal S16384x32 .f32 :=
  extractStridedSlice S16384x32 ![0, 0] (transpose S16384x160 [1, 0] (select
    (broadcastInDim S160x16384 ![0, 1] bcast_S160x1_S160x16384_0_1 (broadcastInDim S160x1 ![0] bcast_S160_S160x1_0
      (cmpf .ogt (cntT d) (broadcastInDim S160 ![] bcast_S_S160 (constant S_ .f32 0x00000000#32)))))
    (Host.divf (broadcastInDim S160x16384 ![] bcast_S_S160x16384 (constant S_ .f32 0x3F800000#32))
      (addf (broadcastInDim S160x16384 ![] bcast_S_S160x16384 (constant S_ .f32 0x3F800000#32))
        (Host.exp (Host.negf (addf (rowsOf b) (mulf (rowsOf rs) (aggT x w s d)))))))
    (broadcastInDim S160x16384 ![] bcast_S_S160x16384 (id (constant S_ .f32 0x00000000#32))))
    transposes_S160x16384_S16384x160_1_0) slices_S16384x160_S16384x32_0_0

/-- A column of edges read at an edge. -/
theorem col_at {α : Type} (v : S4096.Idx → α) (e : Fin 4096) :
    broadcastInDim S4096x1 ![0] bcast_S4096_S4096x1_0 v (ix2 e 0) = v (ix1 e) :=
  broadcastInDim_apply _ _ _ _ _ fun a => match a with | ⟨0, _⟩ => rfl

/-- A vector over the nodes broadcast over the rows reads the node's element. -/
theorem rows_at {α : Type} (b : S160.Idx → α) (n : Fin 160) (r : Fin 16384) :
    broadcastInDim S160x16384 ![0, 1] bcast_S160x1_S160x16384_0_1 (broadcastInDim S160x1 ![0] bcast_S160_S160x1_0 b) (ix2 n r) = b (ix1 n) := by
  rw [broadcastInDim_apply _ _ _ _ (ix2 n 0) fun a => match a with | ⟨0, _⟩ => rfl | ⟨1, _⟩ => rfl]
  exact broadcastInDim_apply _ _ _ _ _ fun a => match a with | ⟨0, _⟩ => rfl

/-- A source index in range is unchanged. -/
theorem idxT_at (s : IVec S4096 32) (e : Fin 4096) (hs : (s (ix1 e)).toNat < 224) : idxT s (ix2 e 0) = s (ix1 e) := by
  unfold idxT
  rw [col_at]
  show Scalar.select (IntOp.cmpi .slt (s (ix1 e)) 0#32) (s (ix1 e) + 224#32) (s (ix1 e)) = _
  have h : IntOp.cmpi .slt (s (ix1 e)) 0#32 = 0#1 := by
    show BitVec.ofBool ((s (ix1 e)).slt 0#32) = 0#1
    have : (s (ix1 e)).slt 0#32 = false := by
      rw [BitVec.slt, decide_eq_false_iff_not, BitVec.toInt_eq_toNat_of_lt (by omega)]
      show ¬ ((s (ix1 e)).toNat : ℤ) < 0
      omega
    rw [this]; rfl
  rw [h, select_zero]

/-- Every source index is found in range. -/
theorem okT_at (s : IVec S4096 32) (hs : ∀ e, (s e).toNat < 224) (j : S4096.Idx) : okT s j = 1#1 := by
  unfold okT
  refine Host.reduce_andi_one _ _ _ _ j rfl fun i => ?_
  obtain ⟨e, rfl⟩ : ∃ e : Fin 4096, i = ix2 e 0 := ⟨i 0, by rw [eq_ix2 i]; congr 1; exact Fin.ext (by have : (i 1).val < 1 := (i 1).isLt; show (i 1).val = 0; omega)⟩
  show IntOp.andi (IntOp.cmpi .sge (idxT s (ix2 e 0)) 0#32) (IntOp.cmpi .sle (idxT s (ix2 e 0)) 223#32) = 1#1
  have hlt := hs (ix1 e)
  rw [idxT_at s e hlt]
  have ei := BitVec.toInt_eq_toNat_of_lt (x := s (ix1 e)) (by omega)
  have h1 : IntOp.cmpi .sge (s (ix1 e)) 0#32 = 1#1 := by
    show BitVec.ofBool ((0#32).sle (s (ix1 e))) = 1#1
    have : (0#32).sle (s (ix1 e)) = true := by
      rw [BitVec.sle, decide_eq_true_iff, ei]
      show (0 : ℤ) ≤ (s (ix1 e)).toNat
      omega
    rw [this]; rfl
  have h2 : IntOp.cmpi .sle (s (ix1 e)) 223#32 = 1#1 := by
    show BitVec.ofBool ((s (ix1 e)).sle 223#32) = 1#1
    have : (s (ix1 e)).sle 223#32 = true := by
      rw [BitVec.sle, decide_eq_true_iff, ei]
      show ((s (ix1 e)).toNat : ℤ) ≤ 223
      omega
    rw [this]; rfl
  rw [h1, h2]; rfl

/-- The inputs and the zeros after them, read at a source. -/
theorem valsT_at (x : FVec Ideal S16384x64 .f32) (r : Fin 16384) (k : Fin 224) : valsT x (ix2 r k) = srcVal x r k.val := by
  unfold valsT srcVal
  split
  · next h =>
    exact concatenate_pair_apply_left (t := S16384x224) (s₁ := S16384x64) (s₂ := S16384x160) 1 _ _ _ _ rfl (ix2 r ⟨k.val, h⟩)
      fun b => match b with | ⟨0, _⟩ => rfl | ⟨1, _⟩ => rfl
  · next h =>
    have hk := k.isLt
    refine (concatenate_pair_apply_right (t := S16384x224) (s₁ := S16384x64) (s₂ := S16384x160) 1 _ _ _ _ rfl rfl (ix2 r ⟨k.val - 64, by omega⟩)
      (fun b hb => match b with | ⟨0, _⟩ => rfl | ⟨1, _⟩ => absurd rfl hb) ?_).trans Ideal.ofBits_zero_f32
    show (k.val - 64) + 64 = k.val
    omega

/-- What edge `e` takes of row `r`: its source's value there. -/
theorem takeT_at (x : FVec Ideal S16384x64 .f32) (s : IVec S4096 32) (hs : ∀ e, (s e).toNat < 224) (r : Fin 16384) (e : Fin 4096) :
    takeT x s (ix2 r e) = srcVal x r (s (ix1 e)).toNat := by
  unfold takeT
  rw [ValueIdx.select_apply, broadcastInDim_apply _ _ _ _ (ix1 e) (fun a => match a with | ⟨0, _⟩ => rfl), okT_at s hs, select_one, take_at, valsT_at]
  have hlt := hs (ix1 e)
  refine congrArg (srcVal x r) ?_
  show min (idxT s (ix2 e 0)).toInt.toNat 223 = _
  rw [idxT_at s e hlt, BitVec.toInt_eq_toNat_of_lt (by omega)]
  show min ((s (ix1 e)).toNat : ℤ).toNat 223 = (s (ix1 e)).toNat
  omega

/-- A sum over the edges, by their one coordinate. -/
theorem sum_edges (f : S4096.Idx → EReal) : ∑ e : Fin 4096, f (ix1 e) = ∑ e : S4096.Idx, f e :=
  Fintype.sum_equiv (⟨ix1, fun j => j 0, fun _ => rfl, fun j => (eq_ix1 j).symm⟩ : Fin 4096 ≃ S4096.Idx) _ _ fun _ => rfl

/-- A destination in range, read signed, is a node exactly when it is read as a natural. -/
theorem dst_iff (d : BitVec 32) (hd : d.toNat < 160) (n : ℕ) : d.toInt = (n : ℤ) ↔ d.toNat = n := by
  rw [BitVec.toInt_eq_toNat_of_lt (by omega)]; omega

/-- The reference's sum at node `n`, row `r`. -/
theorem aggT_at (x : FVec Ideal S16384x64 .f32) (w : FVec Ideal S4096 .f32) (s d : IVec S4096 32) (hs : ∀ e, (s e).toNat < 224)
    (hd : ∀ e, (d e).toNat < 160) (n : Fin 160) (r : Fin 16384) : aggT x w s d (ix2 n r) = agg x w s d r n.val := by
  unfold aggT agg
  rw [sum_at]
  have hz : (broadcastInDim S160x16384 ![] bcast_S_S160x16384 (constant S_ .f32 0x00000000#32) : FVec Ideal S160x16384 .f32) (ix2 n r) = (0 : EReal) :=
    Ideal.ofBits_zero_f32
  rw [hz, ← sum_edges]
  refine (zero_add (M := EReal) _).trans (Finset.sum_congr rfl fun e _ => ?_)
  rw [col_at]
  refine if_congr (dst_iff _ (hd _) _) ?_ rfl
  rw [transpose_ix2_apply, mulf_apply, takeT_at x s hs,
    broadcastInDim_apply _ _ _ _ (ix2 0 e) (fun a => match a with | ⟨0, _⟩ => rfl | ⟨1, _⟩ => rfl),
    broadcastInDim_apply _ _ _ _ (ix1 e) (fun a => match a with | ⟨0, _⟩ => rfl)]

/-- The reference's number of edges into node `n`. -/
theorem cntT_at (d : IVec S4096 32) (hd : ∀ e, (d e).toNat < 160) (n : Fin 160) : cntT d (ix1 n) = Val.cSum d n.val := by
  unfold cntT Val.cSum Val.hitC
  rw [cnt_at]
  have hz : (broadcastInDim S160 ![] bcast_S_S160 (constant S_ .f32 0x00000000#32) : FVec Ideal S160 .f32) (ix1 n) = (0 : EReal) :=
    Ideal.ofBits_zero_f32
  rw [hz]
  refine (zero_add (M := EReal) _).trans (Eq.trans ?_ (sum_edges fun e => if (d e).toNat = n.val then (1 : EReal) else 0))
  refine Finset.sum_congr rfl fun e _ => ?_
  rw [col_at]
  exact if_congr (dst_iff _ (hd _) _) Ideal.ofBits_one_f32 rfl

/-- The reference's result at row `r`, node `n`. -/
theorem outT_at (x : FVec Ideal S16384x64 .f32) (w : FVec Ideal S4096 .f32) (b rs : FVec Ideal S160 .f32) (s d : IVec S4096 32)
    (hs : ∀ e, (s e).toNat < 224) (hd : ∀ e, (d e).toNat < 160) (r : Fin 16384) (n : Fin 32) (n' : Fin 160) (hn : n'.val = n.val) :
    outT x w b rs s d (ix2 r n)
      = (if 0 < Val.cSum d n.val then Ideal.logistic (b (ix1 n') + rs (ix1 n') * agg x w s d r n.val) else 0 : EReal) := by
  unfold outT
  rw [slice2_axis1_apply 0 _ _ r n n' (by omega), transpose_ix2_apply, ValueIdx.select_apply, rows_at]
  have hc : (cmpf .ogt (cntT d) (broadcastInDim S160 ![] bcast_S_S160 (constant S_ .f32 0x00000000#32)) : IVec S160 1) (ix1 n')
      = BitVec.ofBool (decide ((0 : EReal) < Val.cSum d n.val)) := by
    show BitVec.ofBool (decide ((Ideal.ofBits .f32 0x00000000#32 : EReal) < cntT d (ix1 n'))) = _
    rw [cntT_at d hd, hn, Ideal.ofBits_zero_f32]
  rw [hc]
  by_cases h : (0 : EReal) < Val.cSum d n.val
  · rw [if_pos h, decide_eq_true h]
    refine (select_one _ _).trans ?_
    show Ideal.div (Ideal.ofBits .f32 0x3F800000#32) (Ideal.ofBits .f32 0x3F800000#32 + Ideal.exp (-(rowsOf b (ix2 n' r) + rowsOf rs (ix2 n' r) * aggT x w s d (ix2 n' r)))) = _
    rw [Ideal.ofBits_one_f32, aggT_at x w s d hs hd, hn]
    unfold rowsOf
    rw [rows_at, rows_at]
    rfl
  · rw [if_neg h, decide_eq_false h]
    exact (select_zero _ _).trans Ideal.ofBits_zero_f32

end Cert.Proof.Ref

end
-- ==== Proof.Algebra.lean ====
/-
  The kernel's result and the reference's are equal at exact floats: with finite inputs and weights the row's product with
  a node's sums of weights is the node's sum of weight times source value, the two sums exchanged.
-/
module

public import proofs.«01_k».proof.Proof.Frames
public import proofs.«01_k».proof.Proof.TcValue
public import proofs.«01_k».proof.Proof.RefValue

@[expose] public section

noncomputable section

namespace Cert.Proof

open Idealize.ShloMosaic hiding ix1 ix2
open Idealize.ShloMosaic.ValueIdx Idealize.ShloMosaic.TcCoe Idealize.SL.Sem
open Cert.KernelIdeal
open scoped BigOperators

/-- An element whose absolute value compares below infinity is a real. -/
theorem real_of_test (x : Ideal .f32) (h : FloatOps.cmpf .olt (FloatOps.hostAbsf x) (FloatOps.ofBits (F := Ideal) .f32 0x7F800000#32) = 1#1) :
    ∃ r : ℝ, (x : EReal) = (r : EReal) := by
  have h' : max (x : EReal) (-x) < Ideal.ofBits .f32 0x7F800000#32 := of_decide_eq_true ((ofBool_eq_one _).1 h)
  have ht : max (x : EReal) (-x) < ⊤ := lt_of_lt_of_le h' le_top
  induction x using EReal.rec with
  | bot => exact absurd ht (by simp)
  | coe r => exact ⟨r, rfl⟩
  | top => exact absurd ht (by simp)

/-- Each row's product with the sums of weights by source is the sum of weight times source value, over the reals. -/
theorem exchange (X : Fin 64 → ℝ) (W : S4096.Idx → ℝ) (s d : IVec S4096 32) (n : ℕ) :
    ∑ k : Fin 64, X k * ∑ e, (if (d e).toNat = n ∧ (s e).toNat = k.val then W e else 0)
      = ∑ e, if (d e).toNat = n then W e * (if h : (s e).toNat < 64 then X ⟨(s e).toNat, h⟩ else 0) else 0 := by
  simp only [Finset.mul_sum]
  rw [Finset.sum_comm]
  refine Finset.sum_congr rfl fun e _ => ?_
  by_cases hd : (d e).toNat = n
  · simp only [hd, true_and, if_true]
    by_cases hs : (s e).toNat < 64
    · rw [dif_pos hs, Finset.sum_eq_single (⟨(s e).toNat, hs⟩ : Fin 64) (fun k _ hk => ?_) fun h => absurd (Finset.mem_univ _) h]
      · rw [if_pos rfl, mul_comm]
      · rw [if_neg fun h => hk (Fin.ext h.symm), mul_zero]
    · rw [dif_neg hs, mul_zero]
      refine Finset.sum_eq_zero fun k _ => ?_
      rw [if_neg fun h : (s e).toNat = k.val => hs (lt_of_eq_of_lt h k.isLt), mul_zero]
  · simp only [hd, false_and, if_false, mul_zero, Finset.sum_const_zero]

/-- A real sum read among the extended reals is the sum of the reals read there. -/
theorem coe_sum {ι : Type} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- The same exchange at exact floats, the inputs and weights finite. -/
theorem agg_eq (x : FVec Ideal S16384x64 .f32) (w : FVec Ideal S4096 .f32) (s d : IVec S4096 32)
    (hx : ∀ i, ∃ r : ℝ, (x i : EReal) = (r : EReal)) (hw : ∀ i, ∃ r : ℝ, (w i : EReal) = (r : EReal)) (r : Fin 16384) (n : ℕ) :
    (∑ k : Fin 64, x (ix2 r k) * Val.aSum s d w n k.val : EReal) = Ref.agg x w s d r n := by
  choose X hX using hx
  choose W hW using hw
  have ha : ∀ k : ℕ, Val.aSum s d w n k = ((∑ e, (if (d e).toNat = n ∧ (s e).toNat = k then W e else 0) : ℝ) : EReal) := fun k => by
    unfold Val.aSum Val.hitW
    rw [coe_sum]
    refine Finset.sum_congr rfl fun e _ => ?_
    split
    · exact hW e
    · rfl
  have e1 : (∑ k : Fin 64, x (ix2 r k) * Val.aSum s d w n k.val : EReal)
      = ((∑ k : Fin 64, X (ix2 r k) * ∑ e, (if (d e).toNat = n ∧ (s e).toNat = k.val then W e else 0) : ℝ) : EReal) := by
    rw [coe_sum]
    refine Finset.sum_congr rfl fun k _ => ?_
    rw [ha, hX, EReal.coe_mul]
  rw [e1, exchange (fun k => X (ix2 r k)) W s d n, coe_sum]
  unfold Ref.agg Ref.srcVal
  refine Finset.sum_congr rfl fun e _ => ?_
  split
  · rw [EReal.coe_mul]
    refine congrArg₂ (HMul.hMul (α := EReal) (β := EReal) (γ := EReal)) (hW e).symm ?_
    split
    · exact (hX _).symm
    · rfl
  · rfl

/-- The two results are equal, the indices in range and the inputs and weights finite. -/
theorem out_eq (x : FVec Ideal S16384x64 .f32) (w : FVec Ideal S4096 .f32) (b rs : FVec Ideal S160 .f32) (s d : IVec S4096 32)
    (hs : ∀ e, (s e).toNat < 224) (hd : ∀ e, (d e).toNat < 160)
    (hx : ∀ i, ∃ r : ℝ, (x i : EReal) = (r : EReal)) (hw : ∀ i, ∃ r : ℝ, (w i : EReal) = (r : EReal)) :
    Ref.outT x w b rs s d = Sc.outK x w b rs s d := by
  funext i
  obtain ⟨r, n, rfl⟩ : ∃ (r : Fin 16384) (n : Fin 32), i = ix2 r n := ⟨i 0, i 1, ValueIdx.eq_ix2 i⟩
  have hn := n.isLt
  rw [Ref.outT_at x w b rs s d hs hd r n ⟨n.val, by omega⟩ rfl]
  refine Eq.trans ?_ (show (Ideal.logistic (b (ix1 ⟨n.val, by omega⟩) + rs (ix1 ⟨n.val, by omega⟩) * ∑ k : Fin 64, x (ix2 r k) * Val.aSum s d w n.val k.val)
    * (if 0 < Val.cSum d n.val then 1 else 0) : EReal) = Sc.outK x w b rs s d (ix2 r n) from rfl)
  rw [agg_eq x w s d hx hw r n.val]
  split
  · exact (mul_one (M := EReal) _).symm
  · exact (mul_zero (M₀ := EReal) _).symm

attribute [local instance] Cert.Kernel.Gen.facts Cert.KernelIdeal.Gen.facts Cert.ReferenceIdeal.Gen.facts facts_in_range facts_finite_in_range

/-- At exact floats, the indices in range and the inputs and weights finite, the kernel's result is the reference's. -/
theorem algebraic : Cert.algebraic_KernelIdeal_ReferenceIdeal_pre_finite_in_range := by
  intro m g m' g' hpre harg
  have hP := fun c => finite_in_range_apply _ _ _ _ _ _ (hpre c)
  refine ⟨fun c => Sc.RES m c, ?_, ?_⟩
  · exact (θ_run _ _ _).mono (fun _ h => h.1) (Sc.run_main (F := Ideal) m g fun d j => lt_trans ((hP d).1 j).1 (by decide))
  · refine (θ_run _ _ _).mono (fun _ h c => ⟨(h c).1.trans ?_, (h c).2⟩) (Cert.ReferenceIdeal.Value.run m' g')
    obtain ⟨e0, e1, e2, e3, e4, e5⟩ := harg c
    obtain ⟨hr, hx, hw⟩ := hP c
    have hR := (Sc.RES_eq m c (fun e => (hr e).1) (fun e => (hr e).2)).symm
    refine Eq.trans ?_ hR
    show Ref.outT (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) = _
    rw [e0, e1, e2, e3, e4, e5]
    exact out_eq _ _ _ _ _ _ (fun e => (hr e).1) (fun e => (hr e).2) (fun i => real_of_test _ (hx i)) fun i => real_of_test _ (hw i)

end Cert.Proof

end
-- ==== Proof.lean ====
/-
  The certificate's claim: the kernel's frames, the reference's frame, the idealization's soundness, and that at exact floats
  the kernel's result is the reference's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.Algebra

@[expose] public section

noncomputable section

namespace Cert.Proof

open Idealize.ShloMosaic Idealize.SL.Sem

/-- The certificate's claim. -/
theorem claim : Cert.Claim :=
  ⟨Cert.Kernel.Gen.facts, Cert.KernelIdeal.Gen.facts, Cert.ReferenceIdeal.Gen.facts, facts_in_range, facts_finite_in_range,
    frame_kernel, frame_ideal, frame_ideal_finite, frame_reference, frame_reference_finite, trivial, algebraic⟩

end Cert.Proof

end
